-- ==== Defs.lean ====
def Pre_Kernel [hPre_some_rows : Cert.Pre_some_rows.Facts] (m : (ℓ : Loc Cert.Kernel.nD Cert.Kernel.τ Cert.Kernel.sig) → Buf (Elt Bits) ℓ) : Prop :=
  ∀ c : Dev Cert.Kernel.nD,
    (Cert.Pre_some_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_some_rows : Cert.Pre_some_rows.Facts] (m : (ℓ : Loc Cert.KernelIdeal.nD Cert.KernelIdeal.τ Cert.KernelIdeal.sig) → Buf (Elt Ideal) ℓ) : Prop :=
  ∀ c : Dev Cert.KernelIdeal.nD,
    (Cert.Pre_some_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_some_rows : Cert.Pre_some_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_some_rows : Cert.Pre_some_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_some_rows : Cert.Pre_some_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_some_rows : Cert.Pre_some_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_some_rows : Cert.Pre_some_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v130_0)) (v1 : (c : Dev Cert.Kernel2Ideal.nD) → Buf (Elt Ideal) ((c.tc : Thread Cert.Kernel2Ideal.nD Cert.Kernel2Ideal.τ).loc Cert.Kernel2Ideal.main_v130_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v130_0) = v0 c
          ∧ r.2.mem ((c.tc : Thread Cert.Kernel2Ideal.nD Cert.Kernel2Ideal.τ).loc Cert.Kernel2Ideal.main_v130_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_v91) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v40)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v40) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v81) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_some_rows : Cert.Pre_some_rows.Facts),
    quiescent_Kernel (hKernel := hKernel) (hPre_some_rows := hPre_some_rows)
    ∧ quiescent_KernelIdeal (hKernelIdeal := hKernelIdeal) (hPre_some_rows := hPre_some_rows)
    ∧ quiescent_ReferenceIdeal (hReferenceIdeal := hReferenceIdeal) (hPre_some_rows := hPre_some_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_some_rows := hPre_some_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_some_rows.lean ====
abbrev S32 : Shape := ⟨1, ![32]⟩
abbrev S720896x128 : Shape := ⟨2, ![720896, 128]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S1 : Shape := ⟨1, ![1]⟩

class Facts : Prop where
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  slices_S32_S1_31 : S32.Slices ![31] S1
  shapeCasts_S1_S_ : S1.ShapeCasts S_

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn {F : FTy → Type} [FloatOps F] (main_arg0 : IVec S32 32) (main_arg1 : FVec F S720896x128 .f32) (main_arg2 : FVec F S4x32x1024x2048 .f32) (main_arg3 : FVec F S4x32x2048 .f32) (main_arg4 : FVec F S4x32x1024x1024 .f32) (main_arg5 : FVec F S4x32x1024 .f32) : IVec S_ 1 :=
  let main_c : IVec S_ 32 := constantI S_ 32 512#32
  let main_v0 : IVec S32 32 := broadcastInDim S32 ![] bcast_S_S32 main_c
  let main_v1 : IVec S32 32 := addi main_arg0 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 512#32
  let main_v4 : IVec S32 32 := fn_floor_divide (F := F) main_v3 main_c_1
  let main_c_2 : IVec S_ 32 := constantI S_ 32 512#32
  let main_v5 : IVec S32 32 := broadcastInDim S32 ![] bcast_S_S32 main_c_2
  let main_v6 : IVec S32 32 := muli main_v4 main_v5
  let main_v7 : IVec S32 32 := fn_cumsum (F := F) main_v6
  let main_v8 : IVec S1 32 := (extractStridedSlice S1 ![31] · slices_S32_S1_31) main_v7
  let main_v9 : IVec S_ 32 := shapeCast S_ main_v8 shapeCasts_S1_S_
  let main_c_3 : IVec S_ 32 := constantI S_ 32 512#32
  let main_v10 : IVec S_ 1 := cmpi .sge main_v9 main_c_3
  main_v10
-- ==== Kernel.lean ====
abbrev S32 : Shape := ⟨1, ![32]⟩
abbrev S720896x128 : Shape := ⟨2, ![720896, 128]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S1 : Shape := ⟨1, ![1]⟩
abbrev S176 : Shape := ⟨1, ![176]⟩
abbrev S1x32 : Shape := ⟨2, ![1, 32]⟩
abbrev S176x1 : Shape := ⟨2, ![176, 1]⟩
abbrev S176x32 : Shape := ⟨2, ![176, 32]⟩
abbrev S4x32x1x2048 : Shape := ⟨4, ![4, 32, 1, 2048]⟩
abbrev S4x32x1x1024 : Shape := ⟨4, ![4, 32, 1, 1024]⟩
abbrev S4096x128 : Shape := ⟨2, ![4096, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S512x1024 : Shape := ⟨2, ![512, 1024]⟩
abbrev S1x1x128x2048 : Shape := ⟨4, ![1, 1, 128, 2048]⟩
abbrev S128x2048 : Shape := ⟨2, ![128, 2048]⟩
abbrev S1x1x128x1024 : Shape := ⟨4, ![1, 1, 128, 1024]⟩
abbrev S128x1024 : Shape := ⟨2, ![128, 1024]⟩
abbrev S512x128 : Shape := ⟨2, ![512, 128]⟩
abbrev S1024x512 : Shape := ⟨2, ![1024, 512]⟩
abbrev S512x512 : Shape := ⟨2, ![512, 512]⟩
abbrev S1x1x1x512 : Shape := ⟨4, ![1, 1, 1, 512]⟩
abbrev S1x512 : Shape := ⟨2, ![1, 512]⟩
abbrev S1x1024 : Shape := ⟨2, ![1, 1024]⟩

abbrev nBuf : Space → Nat
  | .hbm => 76
  | .vmem => 15
  | .smem => 2
  | _ => 0

abbrev bufTy : (tb : Table) → Fin (tcTables nBuf tb) → BufTy
  | .hbm, ⟨0, _⟩ => ⟨S32, .i32⟩
  | .hbm, ⟨1, _⟩ => ⟨S720896x128, .f32⟩
  | .hbm, ⟨2, _⟩ => ⟨S4x32x1024x2048, .f32⟩
  | .hbm, ⟨3, _⟩ => ⟨S4x32x2048, .f32⟩
  | .hbm, ⟨4, _⟩ => ⟨S4x32x1024x1024, .f32⟩
  | .hbm, ⟨5, _⟩ => ⟨S4x32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S1, .i32⟩
  | .hbm, ⟨37, _⟩ => ⟨S_, .i32⟩
  | .hbm, ⟨38, _⟩ => ⟨S_, .i32⟩
  | .hbm, ⟨39, _⟩ => ⟨S1, .i32⟩
  | .hbm, ⟨40, _⟩ => ⟨S1, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S1, .i1⟩
  | .hbm, ⟨45, _⟩ => ⟨S1, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S1, .i1⟩
  | .hbm, ⟨50, _⟩ => ⟨S1, .i1⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S176, .i32⟩
  | .hbm, ⟨55, _⟩ => ⟨S_, .i32⟩
  | .hbm, ⟨56, _⟩ => ⟨S1, .i32⟩
  | .hbm, ⟨57, _⟩ => ⟨S1, .i32⟩
  | .hbm, ⟨58, _⟩ => ⟨S176, .i32⟩
  | .hbm, ⟨59, _⟩ => ⟨S176, .i32⟩
  | .hbm, ⟨60, _⟩ => ⟨S_, .i32⟩
  | .hbm, ⟨61, _⟩ => ⟨S176, .i32⟩
  | .hbm, ⟨62, _⟩ => ⟨S176, .i32⟩
  | .hbm, ⟨63, _⟩ => ⟨S1x32, .i32⟩
  | .hbm, ⟨64, _⟩ => ⟨S176x1, .i32⟩
  | .hbm, ⟨65, _⟩ => ⟨S176x32, .i32⟩
  | .hbm, ⟨66, _⟩ => ⟨S176x32, .i32⟩
  | .hbm, ⟨67, _⟩ => ⟨S176x32, .i1⟩
  | .hbm, ⟨68, _⟩ => ⟨S176x32, .i32⟩
  | .hbm, ⟨69, _⟩ => ⟨S_, .i32⟩
  | .hbm, ⟨70, _⟩ => ⟨S176, .i32⟩
  | .hbm, ⟨71, _⟩ => ⟨S_, .i32⟩
  | .hbm, ⟨72, _⟩ => ⟨S176, .i32⟩
  | .hbm, ⟨73, _⟩ => ⟨S4x32x1x2048, .f32⟩
  | .hbm, ⟨74, _⟩ => ⟨S4x32x1x1024, .f32⟩
  | .hbm, ⟨75, _⟩ => ⟨S720896x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .vmem, ⟨14, _⟩ => ⟨S512x1024, .bf16⟩
  | .local _ .smem, ⟨0, _⟩ => ⟨S176, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_c : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_0 : Ref sig .tc := ⟨.hbm, 51, rfl⟩
abbrev main_call2_v12 : Ref sig .tc := ⟨.hbm, 52, rfl⟩
abbrev main_call2_v13 : Ref sig .tc := ⟨.hbm, 53, rfl⟩
abbrev main_v10 : Ref sig .tc := ⟨.hbm, 54, rfl⟩
abbrev main_c_4 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_c_5 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_c_6 : Ref sig .tc := ⟨.hbm, 69, rfl⟩
abbrev main_v23 : Ref sig .tc := ⟨.hbm, 70, rfl⟩
abbrev main_c_7 : Ref sig .tc := ⟨.hbm, 71, rfl⟩
abbrev main_v24 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v25 : Ref sig .tc := ⟨.smem, 0, rfl⟩
abbrev main_v9 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![176], ![false]⟩

abbrev pre0 : Pipeline.Prefetch sig := ⟨2, ![main_v25.idx, main_v9.idx], fun | 0 => main_v25.names | 1 => main_v9.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v11 : BitVec 1 := Scalar.xori v1 v_true
  let v12 : BitVec 32 := Scalar.extui v11
  let c0_i32_1 : BitVec 32 := 0#32
  let v13 : BitVec 1 := Scalar.cmpi .ne v12 c0_i32_1
  v13

def k0_cond3 (i : grid0.Coords) (v0 : BitVec 32) : BitVec 1 :=
  let arg0 : BitVec 32 := BitVec.ofNat 32 (i 0).val
  let v1 : BitVec 1 := Scalar.cmpi .slt arg0 v0
  let v17 : BitVec 32 := Scalar.extui v1
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S176.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S176) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S176.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S176) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S176.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S176) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S176.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S176) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32 : Shape := ⟨1, ![32]⟩
abbrev S720896x128 : Shape := ⟨2, ![720896, 128]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S176 : Shape := ⟨1, ![176]⟩
abbrev S1x32 : Shape := ⟨2, ![1, 32]⟩
abbrev S176x1 : Shape := ⟨2, ![176, 1]⟩
abbrev S176x32 : Shape := ⟨2, ![176, 32]⟩
abbrev S176x512x1024 : Shape := ⟨3, ![176, 512, 1024]⟩
abbrev S1x32x1024x2048 : Shape := ⟨4, ![1, 32, 1024, 2048]⟩
abbrev S32x1024x2048 : Shape := ⟨3, ![32, 1024, 2048]⟩
abbrev S176x1024x2048 : Shape := ⟨3, ![176, 1024, 2048]⟩
abbrev S176x512x2048 : Shape := ⟨3, ![176, 512, 2048]⟩
abbrev S1x32x2048 : Shape := ⟨3, ![1, 32, 2048]⟩
abbrev S32x2048 : Shape := ⟨2, ![32, 2048]⟩
abbrev S176x2048 : Shape := ⟨2, ![176, 2048]⟩
abbrev S176x1x2048 : Shape := ⟨3, ![176, 1, 2048]⟩
abbrev S1x32x1024x1024 : Shape := ⟨4, ![1, 32, 1024, 1024]⟩
abbrev S32x1024x1024 : Shape := ⟨3, ![32, 1024, 1024]⟩
abbrev S176x1024x1024 : Shape := ⟨3, ![176, 1024, 1024]⟩
abbrev S1x32x1024 : Shape := ⟨3, ![1, 32, 1024]⟩
abbrev S32x1024 : Shape := ⟨2, ![32, 1024]⟩
abbrev S176x1024 : Shape := ⟨2, ![176, 1024]⟩
abbrev S176x1x1024 : Shape := ⟨3, ![176, 1, 1024]⟩
abbrev S1 : Shape := ⟨1, ![1]⟩
abbrev S176x1x1 : Shape := ⟨3, ![176, 1, 1]⟩

abbrev nBuf : Space → Nat
  | .hbm => 147
  | .vmem => 0
  | .smem => 0
  | _ => 0

abbrev hbmTy0_0 (i : Nat) : BufTy := match i % 128 with
  | 0 => ⟨S32, .i32⟩
  | 1 => ⟨S720896x128, .f32⟩
  | 2 => ⟨S4x32x1024x2048, .f32⟩
  | 3 => ⟨S4x32x2048, .f32⟩
  | 4 => ⟨S4x32x1024x1024, .f32⟩
  | 5 => ⟨S4x32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S176, .i32⟩
  | 37 => ⟨S_, .i32⟩
  | 38 => ⟨S176, .i32⟩
  | 39 => ⟨S176, .i32⟩
  | 40 => ⟨S1x32, .i32⟩
  | 41 => ⟨S176x1, .i32⟩
  | 42 => ⟨S176x32, .i32⟩
  | 43 => ⟨S176x32, .i32⟩
  | 44 => ⟨S176x32, .i1⟩
  | 45 => ⟨S176x32, .i32⟩
  | 46 => ⟨S_, .i32⟩
  | 47 => ⟨S176, .i32⟩
  | 48 => ⟨S_, .i32⟩
  | 49 => ⟨S176, .i32⟩
  | 50 => ⟨S176, .i32⟩
  | 51 => ⟨S176x512x1024, .f32⟩
  | 52 => ⟨S1x32x1024x2048, .f32⟩
  | 53 => ⟨S32x1024x2048, .f32⟩
  | 54 => ⟨S_, .i32⟩
  | 55 => ⟨S176, .i32⟩
  | 56 => ⟨S176, .i1⟩
  | 57 => ⟨S_, .i32⟩
  | 58 => ⟨S176, .i32⟩
  | 59 => ⟨S176, .i32⟩
  | 60 => ⟨S176, .i32⟩
  | 61 => ⟨S176x1, .i32⟩
  | 62 => ⟨S176x1024x2048, .f32⟩
  | 63 => ⟨S176x512x2048, .f32⟩
  | 64 => ⟨S1x32x2048, .f32⟩
  | 65 => ⟨S32x2048, .f32⟩
  | 66 => ⟨S_, .i32⟩
  | 67 => ⟨S176, .i32⟩
  | 68 => ⟨S176, .i1⟩
  | 69 => ⟨S_, .i32⟩
  | 70 => ⟨S176, .i32⟩
  | 71 => ⟨S176, .i32⟩
  | 72 => ⟨S176, .i32⟩
  | 73 => ⟨S176x1, .i32⟩
  | 74 => ⟨S176x2048, .f32⟩
  | 75 => ⟨S176x1x2048, .f32⟩
  | 76 => ⟨S176x512x2048, .f32⟩
  | 77 => ⟨S176x512x2048, .f32⟩
  | 78 => ⟨S176x512x1024, .f32⟩
  | 79 => ⟨S_, .f32⟩
  | 80 => ⟨S176x512x1024, .f32⟩
  | 81 => ⟨S176x512x1024, .f32⟩
  | 82 => ⟨S176x512x1024, .f32⟩
  | 83 => ⟨S_, .f32⟩
  | 84 => ⟨S_, .f32⟩
  | 85 => ⟨S_, .f32⟩
  | 86 => ⟨S176x512x1024, .f32⟩
  | 87 => ⟨S176x512x1024, .f32⟩
  | 88 => ⟨S_, .f32⟩
  | 89 => ⟨S176x512x1024, .f32⟩
  | 90 => ⟨S176x512x1024, .f32⟩
  | 91 => ⟨S_, .f32⟩
  | 92 => ⟨S176x512x1024, .f32⟩
  | 93 => ⟨S176x512x1024, .f32⟩
  | 94 => ⟨S176x512x1024, .f32⟩
  | 95 => ⟨S176x512x1024, .f32⟩
  | 96 => ⟨S_, .f32⟩
  | 97 => ⟨S176x512x1024, .f32⟩
  | 98 => ⟨S176x512x1024, .f32⟩
  | 99 => ⟨S_, .f32⟩
  | 100 => ⟨S176x512x1024, .f32⟩
  | 101 => ⟨S176x512x1024, .f32⟩
  | 102 => ⟨S176x512x1024, .f32⟩
  | 103 => ⟨S_, .f32⟩
  | 104 => ⟨S176x512x1024, .f32⟩
  | 105 => ⟨S176x512x1024, .f32⟩
  | 106 => ⟨S176x512x1024, .f32⟩
  | 107 => ⟨S1x32x1024x1024, .f32⟩
  | 108 => ⟨S32x1024x1024, .f32⟩
  | 109 => ⟨S_, .i32⟩
  | 110 => ⟨S176, .i32⟩
  | 111 => ⟨S176, .i1⟩
  | 112 => ⟨S_, .i32⟩
  | 113 => ⟨S176, .i32⟩
  | 114 => ⟨S176, .i32⟩
  | 115 => ⟨S176, .i32⟩
  | 116 => ⟨S176x1, .i32⟩
  | 117 => ⟨S176x1024x1024, .f32⟩
  | 118 => ⟨S176x512x1024, .f32⟩
  | 119 => ⟨S1x32x1024, .f32⟩
  | 120 => ⟨S32x1024, .f32⟩
  | 121 => ⟨S_, .i32⟩
  | 122 => ⟨S176, .i32⟩
  | 123 => ⟨S176, .i1⟩
  | 124 => ⟨S_, .i32⟩
  | 125 => ⟨S176, .i32⟩
  | 126 => ⟨S176, .i32⟩
  | 127 => ⟨S176, .i32⟩
  | _ => ⟨S32, .i32⟩

abbrev hbmTy0_1 (i : Nat) : BufTy := match i % 128 with
  | 0 => ⟨S176x1, .i32⟩
  | 1 => ⟨S176x1024, .f32⟩
  | 2 => ⟨S176x1x1024, .f32⟩
  | 3 => ⟨S176x512x1024, .f32⟩
  | 4 => ⟨S176x512x1024, .f32⟩
  | 5 => ⟨S_, .i32⟩
  | 6 => ⟨S176, .i32⟩
  | 7 => ⟨S176, .i32⟩
  | 8 => ⟨S1, .i32⟩
  | 9 => ⟨S_, .i32⟩
  | 10 => ⟨S176, .i32⟩
  | 11 => ⟨S176, .i1⟩
  | 12 => ⟨S176x1x1, .i1⟩
  | 13 => ⟨S_, .f32⟩
  | 14 => ⟨S_, .f32⟩
  | 15 => ⟨S176x512x1024, .i1⟩
  | 16 => ⟨S176x512x1024, .f32⟩
  | 17 => ⟨S176x512x1024, .f32⟩
  | 18 => ⟨S720896x128, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_c_7 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_8 : Ref sig .tc := ⟨.hbm, 66, rfl⟩
abbrev main_v33 : Ref sig .tc := ⟨.hbm, 67, rfl⟩
abbrev main_v34 : Ref sig .tc := ⟨.hbm, 68, rfl⟩
abbrev main_c_9 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_10 : Ref sig .tc := ⟨.hbm, 83, rfl⟩
abbrev main_cst_11 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v47 : Ref sig .tc := ⟨.hbm, 90, rfl⟩
abbrev main_cst_12 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_13 : Ref sig .tc := ⟨.hbm, 96, rfl⟩
abbrev main_v52 : Ref sig .tc := ⟨.hbm, 97, rfl⟩
abbrev main_v53 : Ref sig .tc := ⟨.hbm, 98, rfl⟩
abbrev main_cst_14 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_15 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_c_16 : Ref sig .tc := ⟨.hbm, 109, rfl⟩
abbrev main_v62 : Ref sig .tc := ⟨.hbm, 110, rfl⟩
abbrev main_v63 : Ref sig .tc := ⟨.hbm, 111, rfl⟩
abbrev main_c_17 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_c_18 : Ref sig .tc := ⟨.hbm, 121, rfl⟩
abbrev main_v72 : Ref sig .tc := ⟨.hbm, 122, rfl⟩
abbrev main_v73 : Ref sig .tc := ⟨.hbm, 123, rfl⟩
abbrev main_c_19 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_c_20 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_21 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v89 : Ref sig .tc := ⟨.hbm, 145, rfl⟩
abbrev main_v90 : Ref sig .tc := ⟨.hbm, 146, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x256x1024 : Shape := ⟨3, ![8, 256, 1024]⟩
abbrev S4x16x6144 : Shape := ⟨3, ![4, 16, 6144]⟩
abbrev S4x1024 : Shape := ⟨2, ![4, 1024]⟩
abbrev S4x1024x4672 : Shape := ⟨3, ![4, 1024, 4672]⟩
abbrev S4x96x1x1024 : Shape := ⟨4, ![4, 96, 1, 1024]⟩
abbrev S4x1024x64 : Shape := ⟨3, ![4, 1024, 64]⟩
abbrev S4x1024x128 : Shape := ⟨3, ![4, 1024, 128]⟩
abbrev S4x1024x160 : Shape := ⟨3, ![4, 1024, 160]⟩
abbrev S_ : Shape := ⟨0, ![]⟩
abbrev S4x1024x96 : Shape := ⟨3, ![4, 1024, 96]⟩
abbrev S4x1024x1 : Shape := ⟨3, ![4, 1024, 1]⟩
abbrev S4x1024x32 : Shape := ⟨3, ![4, 1024, 32]⟩
abbrev S4x1024x640 : Shape := ⟨3, ![4, 1024, 640]⟩
abbrev S4x1024x768 : Shape := ⟨3, ![4, 1024, 768]⟩
abbrev S4x1024x384 : Shape := ⟨3, ![4, 1024, 384]⟩
abbrev S4x1024x448 : Shape := ⟨3, ![4, 1024, 448]⟩
abbrev S4x1024x3712 : Shape := ⟨3, ![4, 1024, 3712]⟩
abbrev S8x2304x1024 : Shape := ⟨3, ![8, 2304, 1024]⟩
abbrev S1x96x1x1024 : Shape := ⟨4, ![1, 96, 1, 1024]⟩
abbrev S96x1x1024 : Shape := ⟨3, ![96, 1, 1024]⟩
abbrev S1x1024 : Shape := ⟨2, ![1, 1024]⟩
abbrev S1024 : Shape := ⟨1, ![1024]⟩
abbrev S1x1024x3712 : Shape := ⟨3, ![1, 1024, 3712]⟩
abbrev S1024x3712 : Shape := ⟨2, ![1024, 3712]⟩
abbrev S8x2304x1664 : Shape := ⟨3, ![8, 2304, 1664]⟩
abbrev S8x2304x2048 : Shape := ⟨3, ![8, 2304, 2048]⟩
abbrev S1x256x1024 : Shape := ⟨3, ![1, 256, 1024]⟩
abbrev S1x1x1024 : Shape := ⟨3, ![1, 1, 1024]⟩
abbrev S1x256x1664 : Shape := ⟨3, ![1, 256, 1664]⟩
abbrev S1x256x2048 : Shape := ⟨3, ![1, 256, 2048]⟩
abbrev S256x1024 : Shape := ⟨2, ![256, 1024]⟩
abbrev S256 : Shape := ⟨1, ![256]⟩
abbrev S256x1 : Shape := ⟨2, ![256, 1]⟩
abbrev S1024x1664 : Shape := ⟨2, ![1024, 1664]⟩
abbrev S256x1664 : Shape := ⟨2, ![256, 1664]⟩
abbrev S1024x2048 : Shape := ⟨2, ![1024, 2048]⟩
abbrev S256x2048 : Shape := ⟨2, ![256, 2048]⟩

abbrev nBuf : Space → Nat
  | .hbm => 138
  | .vmem => 12
  | .smem => 0
  | _ => 0

abbrev hbmTy0_0 (i : Nat) : BufTy := match i % 128 with
  | 0 => ⟨S8x2048x1024, .f32⟩
  | 1 => ⟨S8x256x1024, .f32⟩
  | 2 => ⟨S4x16x6144, .f32⟩
  | 3 => ⟨S4x1024, .f32⟩
  | 4 => ⟨S4x1024x4672, .f32⟩
  | 5 => ⟨S4x96x1x1024, .f32⟩
  | 6 => ⟨S4x1024x64, .f32⟩
  | 7 => ⟨S4x1024x64, .bf16⟩
  | 8 => ⟨S4x1024x64, .f32⟩
  | 9 => ⟨S4x1024x64, .bf16⟩
  | 10 => ⟨S4x1024x128, .f32⟩
  | 11 => ⟨S4x1024x128, .bf16⟩
  | 12 => ⟨S4x1024x128, .f32⟩
  | 13 => ⟨S4x1024x128, .bf16⟩
  | 14 => ⟨S4x1024x64, .f32⟩
  | 15 => ⟨S4x1024x64, .bf16⟩
  | 16 => ⟨S4x1024x64, .f32⟩
  | 17 => ⟨S4x1024x64, .bf16⟩
  | 18 => ⟨S4x1024x128, .f32⟩
  | 19 => ⟨S4x1024x128, .bf16⟩
  | 20 => ⟨S4x1024x128, .f32⟩
  | 21 => ⟨S4x1024x128, .bf16⟩
  | 22 => ⟨S4x1024x64, .f32⟩
  | 23 => ⟨S4x1024x64, .bf16⟩
  | 24 => ⟨S4x1024x64, .f32⟩
  | 25 => ⟨S4x1024x64, .bf16⟩
  | 26 => ⟨S4x1024x128, .f32⟩
  | 27 => ⟨S4x1024x128, .bf16⟩
  | 28 => ⟨S4x1024x128, .f32⟩
  | 29 => ⟨S4x1024x128, .bf16⟩
  | 30 => ⟨S4x1024x64, .f32⟩
  | 31 => ⟨S4x1024x64, .bf16⟩
  | 32 => ⟨S4x1024x64, .f32⟩
  | 33 => ⟨S4x1024x64, .bf16⟩
  | 34 => ⟨S4x1024x128, .f32⟩
  | 35 => ⟨S4x1024x128, .bf16⟩
  | 36 => ⟨S4x1024x160, .f32⟩
  | 37 => ⟨S4x1024x160, .bf16⟩
  | 38 => ⟨S_, .bf16⟩
  | 39 => ⟨S4x1024x96, .bf16⟩
  | 40 => ⟨S4x1024x64, .f32⟩
  | 41 => ⟨S4x1024x64, .bf16⟩
  | 42 => ⟨S4x1024x64, .f32⟩
  | 43 => ⟨S4x1024x64, .bf16⟩
  | 44 => ⟨S4x1024x128, .f32⟩
  | 45 => ⟨S4x1024x128, .bf16⟩
  | 46 => ⟨S4x1024x128, .f32⟩
  | 47 => ⟨S4x1024x128, .bf16⟩
  | 48 => ⟨S4x1024x1, .f32⟩
  | 49 => ⟨S4x1024x1, .bf16⟩
  | 50 => ⟨S4x1024x32, .bf16⟩
  | 51 => ⟨S4x1024x1, .f32⟩
  | 52 => ⟨S4x1024x1, .bf16⟩
  | 53 => ⟨S4x1024x32, .bf16⟩
  | 54 => ⟨S4x1024x1, .f32⟩
  | 55 => ⟨S4x1024x1, .bf16⟩
  | 56 => ⟨S4x1024x32, .bf16⟩
  | 57 => ⟨S4x1024x1, .f32⟩
  | 58 => ⟨S4x1024x1, .bf16⟩
  | 59 => ⟨S4x1024x32, .bf16⟩
  | 60 => ⟨S4x1024x64, .f32⟩
  | 61 => ⟨S4x1024x64, .bf16⟩
  | 62 => ⟨S4x1024x64, .f32⟩
  | 63 => ⟨S4x1024x64, .bf16⟩
  | 64 => ⟨S4x1024x128, .f32⟩
  | 65 => ⟨S4x1024x128, .bf16⟩
  | 66 => ⟨S4x1024x128, .f32⟩
  | 67 => ⟨S4x1024x128, .bf16⟩
  | 68 => ⟨S4x1024x1, .f32⟩
  | 69 => ⟨S4x1024x1, .bf16⟩
  | 70 => ⟨S4x1024x32, .bf16⟩
  | 71 => ⟨S4x1024x1, .f32⟩
  | 72 => ⟨S4x1024x1, .bf16⟩
  | 73 => ⟨S4x1024x32, .bf16⟩
  | 74 => ⟨S4x1024x1, .f32⟩
  | 75 => ⟨S4x1024x1, .bf16⟩
  | 76 => ⟨S4x1024x32, .bf16⟩
  | 77 => ⟨S4x1024x1, .f32⟩
  | 78 => ⟨S4x1024x1, .bf16⟩
  | 79 => ⟨S4x1024x32, .bf16⟩
  | 80 => ⟨S4x1024x64, .f32⟩
  | 81 => ⟨S4x1024x64, .bf16⟩
  | 82 => ⟨S4x1024x64, .f32⟩
  | 83 => ⟨S4x1024x64, .bf16⟩
  | 84 => ⟨S4x1024x128, .f32⟩
  | 85 => ⟨S4x1024x128, .bf16⟩
  | 86 => ⟨S4x1024x128, .f32⟩
  | 87 => ⟨S4x1024x128, .bf16⟩
  | 88 => ⟨S4x1024x1, .f32⟩
  | 89 => ⟨S4x1024x1, .bf16⟩
  | 90 => ⟨S4x1024x32, .bf16⟩
  | 91 => ⟨S4x1024x1, .f32⟩
  | 92 => ⟨S4x1024x1, .bf16⟩
  | 93 => ⟨S4x1024x32, .bf16⟩
  | 94 => ⟨S4x1024x1, .f32⟩
  | 95 => ⟨S4x1024x1, .bf16⟩
  | 96 => ⟨S4x1024x32, .bf16⟩
  | 97 => ⟨S4x1024x1, .f32⟩
  | 98 => ⟨S4x1024x1, .bf16⟩
  | 99 => ⟨S4x1024x32, .bf16⟩
  | 100 => ⟨S4x1024x64, .f32⟩
  | 101 => ⟨S4x1024x64, .bf16⟩
  | 102 => ⟨S4x1024x64, .f32⟩
  | 103 => ⟨S4x1024x64, .bf16⟩
  | 104 => ⟨S4x1024x128, .f32⟩
  | 105 => ⟨S4x1024x128, .bf16⟩
  | 106 => ⟨S4x1024x128, .f32⟩
  | 107 => ⟨S4x1024x128, .bf16⟩
  | 108 => ⟨S4x1024x1, .f32⟩
  | 109 => ⟨S4x1024x1, .bf16⟩
  | 110 => ⟨S4x1024x32, .bf16⟩
  | 111 => ⟨S4x1024x1, .f32⟩
  | 112 => ⟨S4x1024x1, .bf16⟩
  | 113 => ⟨S4x1024x32, .bf16⟩
  | 114 => ⟨S4x1024x1, .f32⟩
  | 115 => ⟨S4x1024x1, .bf16⟩
  | 116 => ⟨S4x1024x32, .bf16⟩
  | 117 => ⟨S4x1024x1, .f32⟩
  | 118 => ⟨S4x1024x1, .bf16⟩
  | 119 => ⟨S4x1024x32, .bf16⟩
  | 120 => ⟨S4x1024x640, .bf16⟩
  | 121 => ⟨S4x1024x640, .bf16⟩
  | 122 => ⟨S4x1024x768, .bf16⟩
  | 123 => ⟨S4x1024x384, .bf16⟩
  | 124 => ⟨S4x1024x384, .bf16⟩
  | 125 => ⟨S4x1024x448, .bf16⟩
  | 126 => ⟨S4x1024x448, .bf16⟩
  | 127 => ⟨S4x1024x3712, .bf16⟩
  | _ => ⟨S8x2048x1024, .f32⟩

abbrev hbmTy0_1 (i : Nat) : BufTy := match i % 128 with
  | 0 => ⟨S8x2304x1024, .f32⟩
  | 1 => ⟨S1x96x1x1024, .f32⟩
  | 2 => ⟨S96x1x1024, .f32⟩
  | 3 => ⟨S1x1024, .f32⟩
  | 4 => ⟨S1024, .f32⟩
  | 5 => ⟨S1x1024x3712, .bf16⟩
  | 6 => ⟨S1024x3712, .bf16⟩
  | 7 => ⟨S1x1024, .f32⟩
  | 8 => ⟨S8x2304x1664, .f32⟩
  | 9 => ⟨S8x2304x2048, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3712, .bf16⟩
  | .local _ .vmem, ⟨8, _⟩ => ⟨S1x256x1664, .f32⟩
  | .local _ .vmem, ⟨9, _⟩ => ⟨S1x256x1664, .f32⟩
  | .local _ .vmem, ⟨10, _⟩ => ⟨S1x256x2048, .f32⟩
  | .local _ .vmem, ⟨11, _⟩ => ⟨S1x256x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130_0 : Ref sig .tc := ⟨.hbm, 136, rfl⟩
abbrev main_v130_1 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.select v0 arg0 c8_i32_0
  let c6_i32 : BitVec 32 := 6#32
  let v2 : BitVec 32 := Scalar.muli v1 c6_i32
  let c0_i32 : BitVec 32 := 0#32
  let v3 : BitVec 32 := Scalar.addi v2 c0_i32
  let c0_i32_1 : BitVec 32 := 0#32
  let c0_i32_2 : BitVec 32 := 0#32
  let c0_i32_3 : BitVec 32 := 0#32
  ![v3.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.select v0 arg0 c8_i32_0
  let c6_i32 : BitVec 32 := 6#32
  let v2 : BitVec 32 := Scalar.muli v1 c6_i32
  let c1_i32 : BitVec 32 := 1#32
  let v3 : BitVec 32 := Scalar.addi v2 c1_i32
  let c0_i32 : BitVec 32 := 0#32
  let c0_i32_1 : BitVec 32 := 0#32
  let c0_i32_2 : BitVec 32 := 0#32
  ![v3.toNat, c0_i32.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3712 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x2048x1024 : Shape := ⟨3, ![8, 2048, 1024]⟩
abbrev S8x256x1024 : Shape := ⟨3, ![8, 256, 1024]⟩
abbrev S4x16x6144 : Shape := ⟨3, ![4, 16, 6144]⟩
abbrev S4x1024 : Shape := ⟨2, ![4, 1024]⟩
abbrev S4x1024x4672 : Shape := ⟨3, ![4, 1024, 4672]⟩
abbrev S1x1024 : Shape := ⟨2, ![1, 1024]⟩
abbrev S1024 : Shape := ⟨1, ![1024]⟩
abbrev S1x1024x4672 : Shape := ⟨3, ![1, 1024, 4672]⟩
abbrev S1024x4672 : Shape := ⟨2, ![1024, 4672]⟩
abbrev S1x8x6144 : Shape := ⟨3, ![1, 8, 6144]⟩
abbrev S8x6144 : Shape := ⟨2, ![8, 6144]⟩
abbrev S8x6x1x1024 : Shape := ⟨4, ![8, 6, 1, 1024]⟩
abbrev S1x1x6144 : Shape := ⟨3, ![1, 1, 6144]⟩
abbrev S6144 : Shape := ⟨1, ![6144]⟩
abbrev S6x1024 : Shape := ⟨2, ![6, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x256 : Shape := ⟨2, ![8, 256]⟩
abbrev S8x256x1 : Shape := ⟨3, ![8, 256, 1]⟩
abbrev S8x2048x4672 : Shape := ⟨3, ![8, 2048, 4672]⟩
abbrev S8x256x4672 : Shape := ⟨3, ![8, 256, 4672]⟩
abbrev S8x2304x4672 : Shape := ⟨3, ![8, 2304, 4672]⟩
abbrev S8x2304x1568 : Shape := ⟨3, ![8, 2304, 1568]⟩
abbrev S8x2304x256 : Shape := ⟨3, ![8, 2304, 256]⟩
abbrev S8x2304x512 : Shape := ⟨3, ![8, 2304, 512]⟩
abbrev S8x2304x4x64 : Shape := ⟨4, ![8, 2304, 4, 64]⟩
abbrev S8x2304x4x128 : Shape := ⟨4, ![8, 2304, 4, 128]⟩
abbrev S8x2304x4x384 : Shape := ⟨4, ![8, 2304, 4, 384]⟩
abbrev S8x2304x1536 : Shape := ⟨3, ![8, 2304, 1536]⟩
abbrev S8x2304x32 : Shape := ⟨3, ![8, 2304, 32]⟩
abbrev S8x2304x96 : Shape := ⟨3, ![8, 2304, 96]⟩
abbrev S8x2304x1664 : Shape := ⟨3, ![8, 2304, 1664]⟩
abbrev S8x2304x1552 : Shape := ⟨3, ![8, 2304, 1552]⟩
abbrev S8x2304x16 : Shape := ⟨3, ![8, 2304, 16]⟩
abbrev S8x2304x4x4 : Shape := ⟨4, ![8, 2304, 4, 4]⟩
abbrev S8x2304x4x4x1 : Shape := ⟨5, ![8, 2304, 4, 4, 1]⟩
abbrev S8x2304x4x4x32 : Shape := ⟨5, ![8, 2304, 4, 4, 32]⟩
abbrev S8x2304x4x512 : Shape := ⟨4, ![8, 2304, 4, 512]⟩
abbrev S8x2304x2048 : Shape := ⟨3, ![8, 2304, 2048]⟩

abbrev nBuf : Space → Nat
  | .hbm => 106
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S4x16x6144, .f32⟩
  | .hbm, ⟨3, _⟩ => ⟨S4x1024, .f32⟩
  | .hbm, ⟨4, _⟩ => ⟨S4x1024x4672, .f32⟩
  | .hbm, ⟨5, _⟩ => ⟨S1x1024, .f32⟩
  | .hbm, ⟨6, _⟩ => ⟨S1024, .f32⟩
  | .hbm, ⟨7, _⟩ => ⟨S1x1024x4672, .f32⟩
  | .hbm, ⟨8, _⟩ => ⟨S1024x4672, .f32⟩
  | .hbm, ⟨9, _⟩ => ⟨S1x8x6144, .f32⟩
  | .hbm, ⟨10, _⟩ => ⟨S8x6144, .f32⟩
  | .hbm, ⟨11, _⟩ => ⟨S8x6x1x1024, .f32⟩
  | .hbm, ⟨12, _⟩ => ⟨S1x1x6144, .f32⟩
  | .hbm, ⟨13, _⟩ => ⟨S6144, .f32⟩
  | .hbm, ⟨14, _⟩ => ⟨S6x1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S8x1x1x1024, .f32⟩
  | .hbm, ⟨32, _⟩ => ⟨S8x1x1024, .f32⟩
  | .hbm, ⟨33, _⟩ => ⟨S8x1x1x1024, .f32⟩
  | .hbm, ⟨34, _⟩ => ⟨S8x1x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x256x1024, .f32⟩
  | .hbm, ⟨43, _⟩ => ⟨S_, .f32⟩
  | .hbm, ⟨44, _⟩ => ⟨S8x256, .f32⟩
  | .hbm, ⟨45, _⟩ => ⟨S8x256x1, .f32⟩
  | .hbm, ⟨46, _⟩ => ⟨S_, .f32⟩
  | .hbm, ⟨47, _⟩ => ⟨S8x256x1, .f32⟩
  | .hbm, ⟨48, _⟩ => ⟨S8x256x1, .f32⟩
  | .hbm, ⟨49, _⟩ => ⟨S_, .f32⟩
  | .hbm, ⟨50, _⟩ => ⟨S8x256x1, .f32⟩
  | .hbm, ⟨51, _⟩ => ⟨S8x256x1, .f32⟩
  | .hbm, ⟨52, _⟩ => ⟨S8x256x1, .f32⟩
  | .hbm, ⟨53, _⟩ => ⟨S8x256x1024, .f32⟩
  | .hbm, ⟨54, _⟩ => ⟨S8x256x1024, .f32⟩
  | .hbm, ⟨55, _⟩ => ⟨S1x1x1024, .f32⟩
  | .hbm, ⟨56, _⟩ => ⟨S8x256x1024, .f32⟩
  | .hbm, ⟨57, _⟩ => ⟨S8x256x1024, .f32⟩
  | .hbm, ⟨58, _⟩ => ⟨S1x1024, .f32⟩
  | .hbm, ⟨59, _⟩ => ⟨S1024, .f32⟩
  | .hbm, ⟨60, _⟩ => ⟨S1x1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1x1x1024, .f32⟩
  | .hbm, ⟨66, _⟩ => ⟨S8x256x1024, .f32⟩
  | .hbm, ⟨67, _⟩ => ⟨S8x256x1024, .f32⟩
  | .hbm, ⟨68, _⟩ => ⟨S1x1x1024, .f32⟩
  | .hbm, ⟨69, _⟩ => ⟨S8x256x1024, .f32⟩
  | .hbm, ⟨70, _⟩ => ⟨S8x256x1024, .f32⟩
  | .hbm, ⟨71, _⟩ => ⟨S8x2048x4672, .f32⟩
  | .hbm, ⟨72, _⟩ => ⟨S8x256x4672, .f32⟩
  | .hbm, ⟨73, _⟩ => ⟨S8x2304x4672, .f32⟩
  | .hbm, ⟨74, _⟩ => ⟨S8x2304x1568, .f32⟩
  | .hbm, ⟨75, _⟩ => ⟨S8x2304x256, .f32⟩
  | .hbm, ⟨76, _⟩ => ⟨S8x2304x256, .f32⟩
  | .hbm, ⟨77, _⟩ => ⟨S8x2304x512, .f32⟩
  | .hbm, ⟨78, _⟩ => ⟨S8x2304x512, .f32⟩
  | .hbm, ⟨79, _⟩ => ⟨S8x2304x4x64, .f32⟩
  | .hbm, ⟨80, _⟩ => ⟨S8x2304x4x64, .f32⟩
  | .hbm, ⟨81, _⟩ => ⟨S8x2304x4x128, .f32⟩
  | .hbm, ⟨82, _⟩ => ⟨S8x2304x4x128, .f32⟩
  | .hbm, ⟨83, _⟩ => ⟨S8x2304x4x384, .f32⟩
  | .hbm, ⟨84, _⟩ => ⟨S8x2304x1536, .f32⟩
  | .hbm, ⟨85, _⟩ => ⟨S8x2304x32, .f32⟩
  | .hbm, ⟨86, _⟩ => ⟨S_, .f32⟩
  | .hbm, ⟨87, _⟩ => ⟨S8x2304x96, .f32⟩
  | .hbm, ⟨88, _⟩ => ⟨S8x2304x1664, .f32⟩
  | .hbm, ⟨89, _⟩ => ⟨S8x2304x1552, .f32⟩
  | .hbm, ⟨90, _⟩ => ⟨S8x2304x16, .f32⟩
  | .hbm, ⟨91, _⟩ => ⟨S8x2304x4x4, .f32⟩
  | .hbm, ⟨92, _⟩ => ⟨S8x2304x4x4, .f32⟩
  | .hbm, ⟨93, _⟩ => ⟨S8x2304x4x4x1, .f32⟩
  | .hbm, ⟨94, _⟩ => ⟨S8x2304x4x4x32, .f32⟩
  | .hbm, ⟨95, _⟩ => ⟨S8x2304x256, .f32⟩
  | .hbm, ⟨96, _⟩ => ⟨S8x2304x256, .f32⟩
  | .hbm, ⟨97, _⟩ => ⟨S8x2304x512, .f32⟩
  | .hbm, ⟨98, _⟩ => ⟨S8x2304x512, .f32⟩
  | .hbm, ⟨99, _⟩ => ⟨S8x2304x4x64, .f32⟩
  | .hbm, ⟨100, _⟩ => ⟨S8x2304x4x64, .f32⟩
  | .hbm, ⟨101, _⟩ => ⟨S8x2304x4x128, .f32⟩
  | .hbm, ⟨102, _⟩ => ⟨S8x2304x4x128, .f32⟩
  | .hbm, ⟨103, _⟩ => ⟨S8x2304x4x128, .f32⟩
  | .hbm, ⟨104, _⟩ => ⟨S8x2304x4x512, .f32⟩
  | .hbm, ⟨105, _⟩ => ⟨S8x2304x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_7 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x256x1024 : Shape := ⟨3, ![8, 256, 1024]⟩
abbrev S4x16x6144 : Shape := ⟨3, ![4, 16, 6144]⟩
abbrev S4x1024 : Shape := ⟨2, ![4, 1024]⟩
abbrev S4x1024x4672 : Shape := ⟨3, ![4, 1024, 4672]⟩
abbrev S4x96x1x1024 : Shape := ⟨4, ![4, 96, 1, 1024]⟩
abbrev S4x1024x256 : Shape := ⟨3, ![4, 1024, 256]⟩
abbrev S4x1024x128 : Shape := ⟨3, ![4, 1024, 128]⟩
abbrev S4x1024x4 : Shape := ⟨3, ![4, 1024, 4]⟩
abbrev S_ : Shape := ⟨0, ![]⟩
abbrev S4x1024x120 : Shape := ⟨3, ![4, 1024, 120]⟩
abbrev S4x1024x1792 : Shape := ⟨3, ![4, 1024, 1792]⟩
abbrev S8x2304x1024 : Shape := ⟨3, ![8, 2304, 1024]⟩
abbrev S8x32x64x1024 : Shape := ⟨4, ![8, 32, 64, 1024]⟩
abbrev S8x64x32x1024 : Shape := ⟨4, ![8, 64, 32, 1024]⟩
abbrev S1x96x1x1024 : Shape := ⟨4, ![1, 96, 1, 1024]⟩
abbrev S96x1x1024 : Shape := ⟨3, ![96, 1, 1024]⟩
abbrev S1x1024 : Shape := ⟨2, ![1, 1024]⟩
abbrev S1024 : Shape := ⟨1, ![1024]⟩
abbrev S1x1024x1792 : Shape := ⟨3, ![1, 1024, 1792]⟩
abbrev S1024x1792 : Shape := ⟨2, ![1024, 1792]⟩
abbrev S8x2304x1792 : Shape := ⟨3, ![8, 2304, 1792]⟩
abbrev S1x256x1024 : Shape := ⟨3, ![1, 256, 1024]⟩
abbrev S1x1x1024 : Shape := ⟨3, ![1, 1, 1024]⟩
abbrev S1x256x1792 : Shape := ⟨3, ![1, 256, 1792]⟩
abbrev S256x1024 : Shape := ⟨2, ![256, 1024]⟩
abbrev S256 : Shape := ⟨1, ![256]⟩
abbrev S256x1 : Shape := ⟨2, ![256, 1]⟩
abbrev S256x1792 : Shape := ⟨2, ![256, 1792]⟩

abbrev nBuf : Space → Nat
  | .hbm => 48
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S4x16x6144, .f32⟩
  | .hbm, ⟨3, _⟩ => ⟨S4x1024, .f32⟩
  | .hbm, ⟨4, _⟩ => ⟨S4x1024x4672, .f32⟩
  | .hbm, ⟨5, _⟩ => ⟨S4x96x1x1024, .f32⟩
  | .hbm, ⟨6, _⟩ => ⟨S4x1024x256, .f32⟩
  | .hbm, ⟨7, _⟩ => ⟨S4x1024x256, .bf16⟩
  | .hbm, ⟨8, _⟩ => ⟨S4x1024x256, .f32⟩
  | .hbm, ⟨9, _⟩ => ⟨S4x1024x256, .bf16⟩
  | .hbm, ⟨10, _⟩ => ⟨S4x1024x128, .f32⟩
  | .hbm, ⟨11, _⟩ => ⟨S4x1024x128, .bf16⟩
  | .hbm, ⟨12, _⟩ => ⟨S4x1024x128, .f32⟩
  | .hbm, ⟨13, _⟩ => ⟨S4x1024x128, .bf16⟩
  | .hbm, ⟨14, _⟩ => ⟨S4x1024x4, .f32⟩
  | .hbm, ⟨15, _⟩ => ⟨S4x1024x4, .bf16⟩
  | .hbm, ⟨16, _⟩ => ⟨S4x1024x4, .f32⟩
  | .hbm, ⟨17, _⟩ => ⟨S4x1024x4, .bf16⟩
  | .hbm, ⟨18, _⟩ => ⟨S_, .bf16⟩
  | .hbm, ⟨19, _⟩ => ⟨S4x1024x120, .bf16⟩
  | .hbm, ⟨20, _⟩ => ⟨S4x1024x256, .f32⟩
  | .hbm, ⟨21, _⟩ => ⟨S4x1024x256, .bf16⟩
  | .hbm, ⟨22, _⟩ => ⟨S4x1024x256, .f32⟩
  | .hbm, ⟨23, _⟩ => ⟨S4x1024x256, .bf16⟩
  | .hbm, ⟨24, _⟩ => ⟨S4x1024x128, .f32⟩
  | .hbm, ⟨25, _⟩ => ⟨S4x1024x128, .bf16⟩
  | .hbm, ⟨26, _⟩ => ⟨S4x1024x128, .f32⟩
  | .hbm, ⟨27, _⟩ => ⟨S4x1024x128, .bf16⟩
  | .hbm, ⟨28, _⟩ => ⟨S4x1024x4, .f32⟩
  | .hbm, ⟨29, _⟩ => ⟨S4x1024x4, .bf16⟩
  | .hbm, ⟨30, _⟩ => ⟨S4x1024x4, .f32⟩
  | .hbm, ⟨31, _⟩ => ⟨S4x1024x4, .bf16⟩
  | .hbm, ⟨32, _⟩ => ⟨S_, .bf16⟩
  | .hbm, ⟨33, _⟩ => ⟨S4x1024x120, .bf16⟩
  | .hbm, ⟨34, _⟩ => ⟨S4x1024x1792, .bf16⟩
  | .hbm, ⟨35, _⟩ => ⟨S8x2304x1024, .f32⟩
  | .hbm, ⟨36, _⟩ => ⟨S8x2048x1024, .f32⟩
  | .hbm, ⟨37, _⟩ => ⟨S8x32x64x1024, .f32⟩
  | .hbm, ⟨38, _⟩ => ⟨S8x64x32x1024, .f32⟩
  | .hbm, ⟨39, _⟩ => ⟨S8x2048x1024, .f32⟩
  | .hbm, ⟨40, _⟩ => ⟨S1x96x1x1024, .f32⟩
  | .hbm, ⟨41, _⟩ => ⟨S96x1x1024, .f32⟩
  | .hbm, ⟨42, _⟩ => ⟨S1x1024, .f32⟩
  | .hbm, ⟨43, _⟩ => ⟨S1024, .f32⟩
  | .hbm, ⟨44, _⟩ => ⟨S1x1024x1792, .bf16⟩
  | .hbm, ⟨45, _⟩ => ⟨S1024x1792, .bf16⟩
  | .hbm, ⟨46, _⟩ => ⟨S1x1024, .f32⟩
  | .hbm, ⟨47, _⟩ => ⟨S8x2304x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x1792, .bf16⟩
  | .local _ .vmem, ⟨10, _⟩ => ⟨S1x256x1792, .f32⟩
  | .local _ .vmem, ⟨11, _⟩ => ⟨S1x256x1792, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.maxsi arg1 c8_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.select v0 arg0 c8_i32_0
  let c6_i32 : BitVec 32 := 6#32
  let v2 : BitVec 32 := Scalar.muli v1 c6_i32
  let c0_i32 : BitVec 32 := 0#32
  let v3 : BitVec 32 := Scalar.addi v2 c0_i32
  let c0_i32_1 : BitVec 32 := 0#32
  let c0_i32_2 : BitVec 32 := 0#32
  let c0_i32_3 : BitVec 32 := 0#32
  ![v3.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.select v0 arg0 c8_i32_0
  let c6_i32 : BitVec 32 := 6#32
  let v2 : BitVec 32 := Scalar.muli v1 c6_i32
  let c1_i32 : BitVec 32 := 1#32
  let v3 : BitVec 32 := Scalar.addi v2 c1_i32
  let c0_i32 : BitVec 32 := 0#32
  let c0_i32_1 : BitVec 32 := 0#32
  let c0_i32_2 : BitVec 32 := 0#32
  ![v3.toNat, c0_i32.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8x2048x1024 : Shape := ⟨3, ![8, 2048, 1024]⟩
abbrev S8x256x1024 : Shape := ⟨3, ![8, 256, 1024]⟩
abbrev S4x16x6144 : Shape := ⟨3, ![4, 16, 6144]⟩
abbrev S4x1024 : Shape := ⟨2, ![4, 1024]⟩
abbrev S4x1024x4672 : Shape := ⟨3, ![4, 1024, 4672]⟩
abbrev S1x1024 : Shape := ⟨2, ![1, 1024]⟩
abbrev S1024 : Shape := ⟨1, ![1024]⟩
abbrev S1x1024x4672 : Shape := ⟨3, ![1, 1024, 4672]⟩
abbrev S1024x4672 : Shape := ⟨2, ![1024, 4672]⟩
abbrev S1x8x6144 : Shape := ⟨3, ![1, 8, 6144]⟩
abbrev S8x6144 : Shape := ⟨2, ![8, 6144]⟩
abbrev S8x6x1x1024 : Shape := ⟨4, ![8, 6, 1, 1024]⟩
abbrev S1x1x6144 : Shape := ⟨3, ![1, 1, 6144]⟩
abbrev S6144 : Shape := ⟨1, ![6144]⟩
abbrev S6x1024 : Shape := ⟨2, ![6, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x256 : Shape := ⟨2, ![8, 256]⟩
abbrev S8x256x1 : Shape := ⟨3, ![8, 256, 1]⟩
abbrev S8x2048x4672 : Shape := ⟨3, ![8, 2048, 4672]⟩
abbrev S8x2048x1552 : Shape := ⟨3, ![8, 2048, 1552]⟩
abbrev S8x32x64x1552 : Shape := ⟨4, ![8, 32, 64, 1552]⟩
abbrev S8x64x32x1552 : Shape := ⟨4, ![8, 64, 32, 1552]⟩
abbrev S8x256x4672 : Shape := ⟨3, ![8, 256, 4672]⟩
abbrev S8x256x1552 : Shape := ⟨3, ![8, 256, 1552]⟩
abbrev S8x2304x1552 : Shape := ⟨3, ![8, 2304, 1552]⟩
abbrev S8x2304x16 : Shape := ⟨3, ![8, 2304, 16]⟩
abbrev S8x2304x2x2x4 : Shape := ⟨5, ![8, 2304, 2, 2, 4]⟩
abbrev S8x2304x512 : Shape := ⟨3, ![8, 2304, 512]⟩
abbrev S8x2304x256 : Shape := ⟨3, ![8, 2304, 256]⟩
abbrev S8x2304x240 : Shape := ⟨3, ![8, 2304, 240]⟩
abbrev S8x2304x2x256 : Shape := ⟨4, ![8, 2304, 2, 256]⟩
abbrev S8x2304x2x128 : Shape := ⟨4, ![8, 2304, 2, 128]⟩
abbrev S8x2304x2x8 : Shape := ⟨4, ![8, 2304, 2, 8]⟩
abbrev S8x2304x2x120 : Shape := ⟨4, ![8, 2304, 2, 120]⟩
abbrev S8x2304x2x896 : Shape := ⟨4, ![8, 2304, 2, 896]⟩
abbrev S8x2304x1792 : Shape := ⟨3, ![8, 2304, 1792]⟩

abbrev nBuf : Space → Nat
  | .hbm => 96
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S4x16x6144, .f32⟩
  | .hbm, ⟨3, _⟩ => ⟨S4x1024, .f32⟩
  | .hbm, ⟨4, _⟩ => ⟨S4x1024x4672, .f32⟩
  | .hbm, ⟨5, _⟩ => ⟨S1x1024, .f32⟩
  | .hbm, ⟨6, _⟩ => ⟨S1024, .f32⟩
  | .hbm, ⟨7, _⟩ => ⟨S1x1024x4672, .f32⟩
  | .hbm, ⟨8, _⟩ => ⟨S1024x4672, .f32⟩
  | .hbm, ⟨9, _⟩ => ⟨S1x8x6144, .f32⟩
  | .hbm, ⟨10, _⟩ => ⟨S8x6144, .f32⟩
  | .hbm, ⟨11, _⟩ => ⟨S8x6x1x1024, .f32⟩
  | .hbm, ⟨12, _⟩ => ⟨S1x1x6144, .f32⟩
  | .hbm, ⟨13, _⟩ => ⟨S6144, .f32⟩
  | .hbm, ⟨14, _⟩ => ⟨S6x1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S8x1x1x1024, .f32⟩
  | .hbm, ⟨32, _⟩ => ⟨S8x1x1024, .f32⟩
  | .hbm, ⟨33, _⟩ => ⟨S8x1x1x1024, .f32⟩
  | .hbm, ⟨34, _⟩ => ⟨S8x1x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x256x1024, .f32⟩
  | .hbm, ⟨43, _⟩ => ⟨S_, .f32⟩
  | .hbm, ⟨44, _⟩ => ⟨S8x256, .f32⟩
  | .hbm, ⟨45, _⟩ => ⟨S8x256x1, .f32⟩
  | .hbm, ⟨46, _⟩ => ⟨S_, .f32⟩
  | .hbm, ⟨47, _⟩ => ⟨S8x256x1, .f32⟩
  | .hbm, ⟨48, _⟩ => ⟨S8x256x1, .f32⟩
  | .hbm, ⟨49, _⟩ => ⟨S_, .f32⟩
  | .hbm, ⟨50, _⟩ => ⟨S8x256x1, .f32⟩
  | .hbm, ⟨51, _⟩ => ⟨S8x256x1, .f32⟩
  | .hbm, ⟨52, _⟩ => ⟨S8x256x1, .f32⟩
  | .hbm, ⟨53, _⟩ => ⟨S8x256x1024, .f32⟩
  | .hbm, ⟨54, _⟩ => ⟨S8x256x1024, .f32⟩
  | .hbm, ⟨55, _⟩ => ⟨S1x1x1024, .f32⟩
  | .hbm, ⟨56, _⟩ => ⟨S8x256x1024, .f32⟩
  | .hbm, ⟨57, _⟩ => ⟨S8x256x1024, .f32⟩
  | .hbm, ⟨58, _⟩ => ⟨S1x1024, .f32⟩
  | .hbm, ⟨59, _⟩ => ⟨S1024, .f32⟩
  | .hbm, ⟨60, _⟩ => ⟨S1x1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1x1x1024, .f32⟩
  | .hbm, ⟨66, _⟩ => ⟨S8x256x1024, .f32⟩
  | .hbm, ⟨67, _⟩ => ⟨S8x256x1024, .f32⟩
  | .hbm, ⟨68, _⟩ => ⟨S1x1x1024, .f32⟩
  | .hbm, ⟨69, _⟩ => ⟨S8x256x1024, .f32⟩
  | .hbm, ⟨70, _⟩ => ⟨S8x256x1024, .f32⟩
  | .hbm, ⟨71, _⟩ => ⟨S8x2048x4672, .f32⟩
  | .hbm, ⟨72, _⟩ => ⟨S8x2048x1552, .f32⟩
  | .hbm, ⟨73, _⟩ => ⟨S8x32x64x1552, .f32⟩
  | .hbm, ⟨74, _⟩ => ⟨S8x64x32x1552, .f32⟩
  | .hbm, ⟨75, _⟩ => ⟨S8x2048x1552, .f32⟩
  | .hbm, ⟨76, _⟩ => ⟨S8x256x4672, .f32⟩
  | .hbm, ⟨77, _⟩ => ⟨S8x256x1552, .f32⟩
  | .hbm, ⟨78, _⟩ => ⟨S8x2304x1552, .f32⟩
  | .hbm, ⟨79, _⟩ => ⟨S8x2304x16, .f32⟩
  | .hbm, ⟨80, _⟩ => ⟨S8x2304x2x2x4, .f32⟩
  | .hbm, ⟨81, _⟩ => ⟨S8x2304x2x2x4, .f32⟩
  | .hbm, ⟨82, _⟩ => ⟨S8x2304x512, .f32⟩
  | .hbm, ⟨83, _⟩ => ⟨S8x2304x512, .f32⟩
  | .hbm, ⟨84, _⟩ => ⟨S8x2304x256, .f32⟩
  | .hbm, ⟨85, _⟩ => ⟨S8x2304x256, .f32⟩
  | .hbm, ⟨86, _⟩ => ⟨S_, .f32⟩
  | .hbm, ⟨87, _⟩ => ⟨S8x2304x240, .f32⟩
  | .hbm, ⟨88, _⟩ => ⟨S8x2304x2x256, .f32⟩
  | .hbm, ⟨89, _⟩ => ⟨S8x2304x2x256, .f32⟩
  | .hbm, ⟨90, _⟩ => ⟨S8x2304x2x128, .f32⟩
  | .hbm, ⟨91, _⟩ => ⟨S8x2304x2x128, .f32⟩
  | .hbm, ⟨92, _⟩ => ⟨S8x2304x2x8, .f32⟩
  | .hbm, ⟨93, _⟩ => ⟨S8x2304x2x120, .f32⟩
  | .hbm, ⟨94, _⟩ => ⟨S8x2304x2x896, .f32⟩
  | .hbm, ⟨95, _⟩ => ⟨S8x2304x1792, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_7 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

/-! # One grid point of the experts' kernel

The body runs along three paths, told by two words of its tables: a block past the last occupied one
is filled with zeros; the first block of an expert rounds the expert's weights into the two scratch
buffers and then computes; a further block of the same expert computes from the buffers as they are. -/

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The assertions of the launch. -/
local notation "𝕄" => MT nD τ sig Unit (Elt F) ℕ (UR sig nD τ) ℕ

/-- The table of experts by block. -/
abbrev tabE : Memref sig .tc .smem S176 .i32 := Memref.whole main_v25
/-- The table that holds the number of occupied blocks. -/
abbrev tabN : Memref sig .tc .smem S1 .i32 := Memref.whole main_v9
/-- The rounded first-layer weights of the expert at hand. -/
abbrev wguM : Memref sig .tc .vmem S1024x2048 .bf16 := Memref.whole cc0_scratch0
/-- The rounded second-layer weights of the expert at hand. -/
abbrev wdnM : Memref sig .tc .vmem S1024x1024 .bf16 := Memref.whole cc0_scratch1
/-- The hidden activations of the block at hand. -/
abbrev actM : Memref sig .tc .vmem S512x1024 .bf16 := Memref.whole cc0_scratch2

/-- The number of occupied blocks, as the body reads it. -/
abbrev wordN (T1 : S1.Idx → Elt F .i32) : BitVec 32 :=
  View.readAt (Elt F) tabN.view (Rect.unit (s := S1) ![0] S1.size inb_S1_S1_0).toLoadRect T1
    (Shape.Idx.first (numel1_S1.symm ▸ Nat.one_pos))

/-- The expert of block `i`, as the body reads it. -/
abbrev wordE (i : grid0.Coords) (T0 : S176.Idx → Elt F .i32) : BitVec 32 :=
  View.readAt (Elt F) tabE.view (Rect.unit (s := S176) (k0_off1 i) S1.size (k0_off1_inb i)).toLoadRect T0
    (Shape.Idx.first (numel1_S1.symm ▸ Nat.one_pos))

/-- The expert of the block before block `i`, as the body reads it. -/
abbrev wordP (i : grid0.Coords) (T0 : S176.Idx → Elt F .i32) : BitVec 32 :=
  View.readAt (Elt F) tabE.view (Rect.unit (s := S176) (k0_off2 i) S1.size (k0_off2_inb i)).toLoadRect T0
    (Shape.Idx.first (numel1_S1.symm ▸ Nat.one_pos))

/-- Whether block `i` is the first of its expert, as the body computes it. -/
abbrev wordFresh (i : grid0.Coords) (T0 : S176.Idx → Elt F .i32) (T1 : S1.Idx → Elt F .i32) : BitVec 1 :=
  Scalar.cmpi .ne (Scalar.extui (Scalar.andi (Scalar.cmpi .slt (BitVec.ofNat 32 (i 0).val) (wordN T1))
    (Scalar.ori (Scalar.cmpi .eq (BitVec.ofNat 32 (i 0).val) 0#32)
      (Scalar.cmpi .ne (wordE i T0) (wordP i T0))))) 0#32

variable (c : Dev nD) (i : grid0.Coords)
  (arg3 : Memref sig .tc .vmem S4096x128 .f32) (harg3 : arg3.IsWhole)
  (arg4 : Memref sig .tc .vmem S1x1x1024x2048 .f32) (harg4 : arg4.IsWhole)
  (arg5 : Memref sig .tc .vmem S1x1x1x2048 .f32) (harg5 : arg5.IsWhole)
  (arg6 : Memref sig .tc .vmem S1x1x1024x1024 .f32) (harg6 : arg6.IsWhole)
  (arg7 : Memref sig .tc .vmem S1x1x1x1024 .f32) (harg7 : arg7.IsWhole)
  (arg8 : Memref sig .tc .vmem S4096x128 .f32) (harg8 : arg8.IsWhole)
  (T0 : S176.Idx → Elt F .i32) (T1 : S1.Idx → Elt F .i32)
  (x0 : S4096x128.Idx → Elt F .f32) (x1 : S1x1x1024x2048.Idx → Elt F .f32)
  (x2 : S1x1x1x2048.Idx → Elt F .f32) (x3 : S1x1x1024x1024.Idx → Elt F .f32)
  (x4 : S1x1x1x1024.Idx → Elt F .f32)

set_option backward.proofsInPublic true in
set_option maxHeartbeats 8000000 in
/-- The first block of an expert: what it leaves in the output, stored in pieces, and in the three scratch buffers. -/
noncomputable def runFresh
    (h1 : ¬(k0_cond1 i (wordN T1) = 1#1)) (hc : wordFresh i T0 T1 = 1#1) (h3 : k0_cond3 i (wordN T1) = 1#1) :
    Σ' (out0 : List (View.Piece (Elt F) S4096x128 .f32)) (out1 : Buf (Elt F) ((c : Thread nD τ).loc cc0_scratch0))
      (out2 : Buf (Elt F) ((c : Thread nD τ).loc cc0_scratch1)),
      { out3 : Buf (Elt F) ((c : Thread nD τ).loc cc0_scratch2) //
      ∀ (a0 : Buf (Elt F) ((c : Thread nD τ).loc cc0_scratch0)) (a1 : Buf (Elt F) ((c : Thread nD τ).loc cc0_scratch1)) (a2 : Buf (Elt F) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tabE.view.loc (c : Thread nD τ) ↦{fullShare.right} T0)
          ∗ (tabN.view.loc (c : Thread nD τ) ↦{fullShare.right} T1)
          ∗ (∃ d, owns (c : Thread nD τ) arg8 fullShare d)
          ∗ (wguM.view.loc (c : Thread nD τ) ↦{fullShare} a0)
          ∗ (wdnM.view.loc (c : Thread nD τ) ↦{fullShare} a1)
          ∗ (actM.view.loc (c : Thread nD τ) ↦{fullShare} a2)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tabE.view.loc (c : Thread nD τ) ↦{fullShare.right} T0)
          ∗ (tabN.view.loc (c : Thread nD τ) ↦{fullShare.right} T1)
              ∗ (∃ f, arg8.view.loc (c : Thread nD τ) ↦[arg8.view.set]{fullShare} arg8.view.writes (Elt F) f out0)
              ∗ (wguM.view.loc (c : Thread nD τ) ↦{fullShare} out1)
              ∗ (wdnM.view.loc (c : Thread nD τ) ↦{fullShare} out2)
              ∗ (actM.view.loc (c : Thread nD τ) ↦{fullShare} out3)) -∗ K ⟨⟩))
          ⊢ wp frame (wpE (defs₀ (F := F)) Variants.none c none) Set.univ
              (cc0_moe_experts i tabE (Memref.isWhole_whole _) tabN (Memref.isWhole_whole _) arg3 harg3 arg4 harg4
                arg5 harg5 arg6 harg6 arg7 harg7 arg8 harg8 wguM (Memref.isWhole_whole _) wdnM
                (Memref.isWhole_whole _) actM (Memref.isWhole_whole _)) K } :=
  ⟨_, _, _, _, fun a0 a1 a2 K => by
    unfold owns
    rw [cc0_moe_experts_eq_skeleton]; unfold cc0_moe_experts_skel
    iintro ⟨H0, H1, H2, H3, H4, HT0, HT1, ⟨%d5, %f5, -, HO5⟩, HS0, HS1, HS2, Hk⟩
    have hS0 : wguM.IsWhole := Memref.isWhole_whole _
    have hS1 : wdnM.IsWhole := Memref.isWhole_whole _
    have hS2 : actM.IsWhole := Memref.isWhole_whole _
    have hT0 : tabE.IsWhole := Memref.isWhole_whole _
    have hT1 : tabN.IsWhole := Memref.isWhole_whole _
    sl_exec! (disch := first | (guard_target = ¬(k0_cond1 _ _ = _); exact h1) | (guard_target = Scalar.cmpi = _; exact hc) | (guard_target = k0_cond3 _ _ = _; exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    iexact HS2⟩

set_option backward.proofsInPublic true in
set_option maxHeartbeats 8000000 in
/-- A further block of the same expert: the weights are read from the scratch buffers as they are. -/
noncomputable def runMore (a0 : Buf (Elt F) ((c : Thread nD τ).loc cc0_scratch0)) (a1 : Buf (Elt F) ((c : Thread nD τ).loc cc0_scratch1))
    (h1 : ¬(k0_cond1 i (wordN T1) = 1#1)) (hc : ¬(wordFresh i T0 T1 = 1#1)) (h3 : k0_cond3 i (wordN T1) = 1#1) :
    Σ' (out0 : List (View.Piece (Elt F) S4096x128 .f32)) (out1 : Buf (Elt F) ((c : Thread nD τ).loc cc0_scratch0))
      (out2 : Buf (Elt F) ((c : Thread nD τ).loc cc0_scratch1)),
      { out3 : Buf (Elt F) ((c : Thread nD τ).loc cc0_scratch2) //
      ∀ (a2 : Buf (Elt F) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tabE.view.loc (c : Thread nD τ) ↦{fullShare.right} T0)
          ∗ (tabN.view.loc (c : Thread nD τ) ↦{fullShare.right} T1)
          ∗ (∃ d, owns (c : Thread nD τ) arg8 fullShare d)
          ∗ (wguM.view.loc (c : Thread nD τ) ↦{fullShare} a0)
          ∗ (wdnM.view.loc (c : Thread nD τ) ↦{fullShare} a1)
          ∗ (actM.view.loc (c : Thread nD τ) ↦{fullShare} a2)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tabE.view.loc (c : Thread nD τ) ↦{fullShare.right} T0)
          ∗ (tabN.view.loc (c : Thread nD τ) ↦{fullShare.right} T1)
              ∗ (∃ f, arg8.view.loc (c : Thread nD τ) ↦[arg8.view.set]{fullShare} arg8.view.writes (Elt F) f out0)
              ∗ (wguM.view.loc (c : Thread nD τ) ↦{fullShare} out1)
              ∗ (wdnM.view.loc (c : Thread nD τ) ↦{fullShare} out2)
              ∗ (actM.view.loc (c : Thread nD τ) ↦{fullShare} out3)) -∗ K ⟨⟩))
          ⊢ wp frame (wpE (defs₀ (F := F)) Variants.none c none) Set.univ
              (cc0_moe_experts i tabE (Memref.isWhole_whole _) tabN (Memref.isWhole_whole _) arg3 harg3 arg4 harg4
                arg5 harg5 arg6 harg6 arg7 harg7 arg8 harg8 wguM (Memref.isWhole_whole _) wdnM
                (Memref.isWhole_whole _) actM (Memref.isWhole_whole _)) K } :=
  ⟨_, _, _, _, fun a2 K => by
    unfold owns
    rw [cc0_moe_experts_eq_skeleton]; unfold cc0_moe_experts_skel
    iintro ⟨H0, H1, H2, H3, H4, HT0, HT1, ⟨%d5, %f5, -, HO5⟩, HS0, HS1, HS2, Hk⟩
    have hS0 : wguM.IsWhole := Memref.isWhole_whole _
    have hS1 : wdnM.IsWhole := Memref.isWhole_whole _
    have hS2 : actM.IsWhole := Memref.isWhole_whole _
    have hT0 : tabE.IsWhole := Memref.isWhole_whole _
    have hT1 : tabN.IsWhole := Memref.isWhole_whole _
    sl_exec! (disch := first | (guard_target = ¬(k0_cond1 _ _ = _); exact h1) | (guard_target = ¬(Scalar.cmpi = _); exact hc) | (guard_target = k0_cond3 _ _ = _; exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    iexact HS2⟩

set_option backward.proofsInPublic true in
set_option maxHeartbeats 8000000 in
/-- A block past the last occupied one: zeros. -/
noncomputable def runPast (a0 : Buf (Elt F) ((c : Thread nD τ).loc cc0_scratch0)) (a1 : Buf (Elt F) ((c : Thread nD τ).loc cc0_scratch1)) (a2 : Buf (Elt F) ((c : Thread nD τ).loc cc0_scratch2))
    (h1 : k0_cond1 i (wordN T1) = 1#1) (hc : ¬(wordFresh i T0 T1 = 1#1)) (h3 : ¬(k0_cond3 i (wordN T1) = 1#1)) :
    Σ' (out0 : List (View.Piece (Elt F) S4096x128 .f32)) (out1 : Buf (Elt F) ((c : Thread nD τ).loc cc0_scratch0))
      (out2 : Buf (Elt F) ((c : Thread nD τ).loc cc0_scratch1)),
      { out3 : Buf (Elt F) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tabE.view.loc (c : Thread nD τ) ↦{fullShare.right} T0)
          ∗ (tabN.view.loc (c : Thread nD τ) ↦{fullShare.right} T1)
          ∗ (∃ d, owns (c : Thread nD τ) arg8 fullShare d)
          ∗ (wguM.view.loc (c : Thread nD τ) ↦{fullShare} a0)
          ∗ (wdnM.view.loc (c : Thread nD τ) ↦{fullShare} a1)
          ∗ (actM.view.loc (c : Thread nD τ) ↦{fullShare} a2)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tabE.view.loc (c : Thread nD τ) ↦{fullShare.right} T0)
          ∗ (tabN.view.loc (c : Thread nD τ) ↦{fullShare.right} T1)
              ∗ (∃ f, arg8.view.loc (c : Thread nD τ) ↦[arg8.view.set]{fullShare} arg8.view.writes (Elt F) f out0)
              ∗ (wguM.view.loc (c : Thread nD τ) ↦{fullShare} out1)
              ∗ (wdnM.view.loc (c : Thread nD τ) ↦{fullShare} out2)
              ∗ (actM.view.loc (c : Thread nD τ) ↦{fullShare} out3)) -∗ K ⟨⟩))
          ⊢ wp frame (wpE (defs₀ (F := F)) Variants.none c none) Set.univ
              (cc0_moe_experts i tabE (Memref.isWhole_whole _) tabN (Memref.isWhole_whole _) arg3 harg3 arg4 harg4
                arg5 harg5 arg6 harg6 arg7 harg7 arg8 harg8 wguM (Memref.isWhole_whole _) wdnM
                (Memref.isWhole_whole _) actM (Memref.isWhole_whole _)) K } :=
  ⟨_, _, _, _, fun K => by
    unfold owns
    rw [cc0_moe_experts_eq_skeleton]; unfold cc0_moe_experts_skel
    iintro ⟨H0, H1, H2, H3, H4, HT0, HT1, ⟨%d5, %f5, -, HO5⟩, HS0, HS1, HS2, Hk⟩
    have hS0 : wguM.IsWhole := Memref.isWhole_whole _
    have hS1 : wdnM.IsWhole := Memref.isWhole_whole _
    have hS2 : actM.IsWhole := Memref.isWhole_whole _
    have hT0 : tabE.IsWhole := Memref.isWhole_whole _
    have hT1 : tabN.IsWhole := Memref.isWhole_whole _
    sl_exec! (disch := first | (guard_target = k0_cond1 _ _ = _; exact h1) | (guard_target = ¬(Scalar.cmpi = _); exact hc) | (guard_target = ¬(k0_cond3 _ _ = _); exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    isplitl [HS1]; · iexact HS1
    iexact HS2⟩

end Cert.KernelIdeal.Hand
-- ==== Proof.Block.lean ====
module

public import proofs.«01_k».proof.Proof.Body
public import Idealize.ShloMosaic.Lib.PointwiseCore

@[expose] public section

set_option maxRecDepth 16384

noncomputable section

/-! # What one grid point leaves, as plain functions of its blocks -/

namespace Cert.KernelIdeal.Hand

open Cert.KernelIdeal Cert.KernelIdeal.Gen
open Idealize.ShloMosaic

variable {F : FTy → Type} [FloatOps F]

/-- The first-layer weights of one expert, rounded. -/
def wguv (x1 : S1x1x1024x2048.Idx → Elt F .f32) : S1024x2048.Idx → Elt F .bf16 :=
  fun p => FloatOps.truncf .bf16 bitsLt_bf16_f32 (x1 (ix4 0 0 (p 0) (p 1)))

/-- The second-layer weights of one expert, rounded. -/
def wdnv (x3 : S1x1x1024x1024.Idx → Elt F .f32) : S1024x1024.Idx → Elt F .bf16 :=
  fun p => FloatOps.truncf .bf16 bitsLt_bf16_f32 (x3 (ix4 0 0 (p 0) (p 1)))

/-- Every eighth row of the block of rows, from row `k`. -/
def slab (x0 : S4096x128.Idx → Elt F .f32) (k : Fin 8) : S512x128.Idx → Elt F .f32 :=
  fun p => x0 (ix2 ⟨8 * (p 0).val + k.val, by have h : (p 0).val < 512 := (p 0).isLt; omega⟩ (p 1))

/-- 512 columns of the first-layer weights. -/
def wcol (a0 : S1024x2048.Idx → Elt F .bf16) (k : Fin 4) : S1024x512.Idx → Elt F .bf16 :=
  fun p => a0 (ix2 (p 0) ⟨512 * k.val + (p 1).val, by have h : (p 1).val < 512 := (p 1).isLt; omega⟩)

/-- 512 entries of the first-layer bias. -/
def bcol (x2 : S1x1x1x2048.Idx → Elt F .f32) (k : Fin 4) : S1x1x1x512.Idx → Elt F .f32 :=
  fun p => x2 (ix4 0 0 0 ⟨512 * k.val + (p 3).val, by have h : (p 3).val < 512 := (p 3).isLt; omega⟩)

/-- The rows of a block, rounded. -/
def rowsv (x0 : S4096x128.Idx → Elt F .f32) : FVec F S512x1024 .bf16 :=
  k0_pay24 (slab x0 0) (slab x0 1) (slab x0 2) (slab x0 3) (slab x0 4) (slab x0 5) (slab x0 6) (slab x0 7)

/-- The first half of the hidden activations. -/
def actL (a0 : S1024x2048.Idx → Elt F .bf16) (x0 : S4096x128.Idx → Elt F .f32) (x2 : S1x1x1x2048.Idx → Elt F .f32) :
    FVec F S512x512 .bf16 :=
  k0_pay28
    (k0_pay25 (slab x0 0) (slab x0 1) (slab x0 2) (slab x0 3) (slab x0 4) (slab x0 5) (slab x0 6) (slab x0 7)
      (wcol a0 0) (bcol x2 0))
    (k0_pay26 (slab x0 0) (slab x0 1) (slab x0 2) (slab x0 3) (slab x0 4) (slab x0 5) (slab x0 6) (slab x0 7)
      (wcol a0 2) (bcol x2 2)) k0_pay27

/-- The second half of the hidden activations. -/
def actR (a0 : S1024x2048.Idx → Elt F .bf16) (x0 : S4096x128.Idx → Elt F .f32) (x2 : S1x1x1x2048.Idx → Elt F .f32) :
    FVec F S512x512 .bf16 :=
  k0_pay32 (k0_pay29 (rowsv x0) (wcol a0 1) (bcol x2 1)) (k0_pay30 (rowsv x0) (wcol a0 3) (bcol x2 3)) k0_pay31

/-- The hidden activations of a block. -/
def actv (a0 : S1024x2048.Idx → Elt F .bf16) (x0 : S4096x128.Idx → Elt F .f32) (x2 : S1x1x1x2048.Idx → Elt F .f32) :
    S512x1024.Idx → Elt F .bf16 := fun p =>
  if h : (p 1).val < 512 then actL a0 x0 x2 (ix2 (p 0) ⟨(p 1).val, h⟩)
  else actR a0 x0 x2 (ix2 (p 0) ⟨(p 1).val - 512, by have h : (p 1).val < 1024 := (p 1).isLt; omega⟩)

/-- What the second layer gives for a block. -/
def yv (a0 : S1024x2048.Idx → Elt F .bf16) (a1 : S1024x1024.Idx → Elt F .bf16) (x0 : S4096x128.Idx → Elt F .f32)
    (x2 : S1x1x1x2048.Idx → Elt F .f32) (x4 : S1x1x1x1024.Idx → Elt F .f32) : FVec F S512x1024 .f32 :=
  k0_pay33 (actv a0 x0 x2) a1 x4

/-- A block's result, each row of 1024 laid out over eight rows of 128. -/
def outv (y : FVec F S512x1024 .f32) : S4096x128.Idx → Elt F .f32 := fun p =>
  y (ix2 ⟨(p 0).val / 8, by have h : (p 0).val < 4096 := (p 0).isLt; omega⟩
    ⟨128 * ((p 0).val % 8) + (p 1).val, by have h : (p 1).val < 128 := (p 1).isLt; omega⟩)

variable (c : Dev nD) (i : grid0.Coords)
  (arg3 : Memref sig .tc .vmem S4096x128 .f32) (harg3 : arg3.IsWhole)
  (arg4 : Memref sig .tc .vmem S1x1x1024x2048 .f32) (harg4 : arg4.IsWhole)
  (arg5 : Memref sig .tc .vmem S1x1x1x2048 .f32) (harg5 : arg5.IsWhole)
  (arg6 : Memref sig .tc .vmem S1x1x1024x1024 .f32) (harg6 : arg6.IsWhole)
  (arg7 : Memref sig .tc .vmem S1x1x1x1024 .f32) (harg7 : arg7.IsWhole)
  (arg8 : Memref sig .tc .vmem S4096x128 .f32) (harg8 : arg8.IsWhole)
  (T0 : S176.Idx → Elt F .i32) (T1 : S1.Idx → Elt F .i32)
  (x0 : S4096x128.Idx → Elt F .f32) (x1 : S1x1x1024x2048.Idx → Elt F .f32)
  (x2 : S1x1x1x2048.Idx → Elt F .f32) (x3 : S1x1x1024x1024.Idx → Elt F .f32)
  (x4 : S1x1x1x1024.Idx → Elt F .f32)

/-! ## The loads -/

theorem slab_load (k : Fin 8) (h) :
    View.readAt (Elt F) arg3.view (⟨![k.val, 0], S512x128.size, ![8, 1], h⟩ : LoadRect S4096x128) (arg3.view.rep x0)
      = slab x0 k := by
  rw [View.readAt_rep]
  funext p
  refine congrArg x0 (funext fun a => Fin.ext ?_)
  match a with
  | 0 => exact (Nat.add_comm _ _)
  | 1 => simp [LoadRect.idx]

theorem bcol_load (k : Fin 4) (o : ℕ) (ho : o = 512 * k.val) (h) :
    View.readAt (Elt F) arg5.view (Rect.unit (s := S1x1x1x2048) ![0, 0, 0, o] S1x1x1x512.size h).toLoadRect (arg5.view.rep x2)
      = bcol x2 k := by
  subst ho
  rw [View.readAt_rep]
  funext p
  refine congrArg x2 (funext fun a => Fin.ext ?_)
  match a with
  | 0 => have h0 : (p 0).val < 1 := (p 0).isLt; simp [LoadRect.idx]; omega
  | 1 => have h0 : (p 1).val < 1 := (p 1).isLt; simp [LoadRect.idx]; omega
  | 2 => have h0 : (p 2).val < 1 := (p 2).isLt; simp [LoadRect.idx]; omega
  | 3 => simp [LoadRect.idx]

theorem slab_load0 : View.readAt (Elt F) arg3.view
    (⟨![0, 0], S512x128.size, ![8, 1], inb_S4096x128_S512x128_0_0_s_8_1⟩ : LoadRect S4096x128) (arg3.view.rep x0)
      = slab x0 0 := slab_load arg3 x0 0 _

theorem slab_load1 : View.readAt (Elt F) arg3.view
    (⟨![1, 0], S512x128.size, ![8, 1], inb_S4096x128_S512x128_1_0_s_8_1⟩ : LoadRect S4096x128) (arg3.view.rep x0)
      = slab x0 1 := slab_load arg3 x0 1 _

theorem slab_load2 : View.readAt (Elt F) arg3.view
    (⟨![2, 0], S512x128.size, ![8, 1], inb_S4096x128_S512x128_2_0_s_8_1⟩ : LoadRect S4096x128) (arg3.view.rep x0)
      = slab x0 2 := slab_load arg3 x0 2 _

theorem slab_load3 : View.readAt (Elt F) arg3.view
    (⟨![3, 0], S512x128.size, ![8, 1], inb_S4096x128_S512x128_3_0_s_8_1⟩ : LoadRect S4096x128) (arg3.view.rep x0)
      = slab x0 3 := slab_load arg3 x0 3 _

theorem slab_load4 : View.readAt (Elt F) arg3.view
    (⟨![4, 0], S512x128.size, ![8, 1], inb_S4096x128_S512x128_4_0_s_8_1⟩ : LoadRect S4096x128) (arg3.view.rep x0)
      = slab x0 4 := slab_load arg3 x0 4 _

theorem slab_load5 : View.readAt (Elt F) arg3.view
    (⟨![5, 0], S512x128.size, ![8, 1], inb_S4096x128_S512x128_5_0_s_8_1⟩ : LoadRect S4096x128) (arg3.view.rep x0)
      = slab x0 5 := slab_load arg3 x0 5 _

theorem slab_load6 : View.readAt (Elt F) arg3.view
    (⟨![6, 0], S512x128.size, ![8, 1], inb_S4096x128_S512x128_6_0_s_8_1⟩ : LoadRect S4096x128) (arg3.view.rep x0)
      = slab x0 6 := slab_load arg3 x0 6 _

theorem slab_load7 : View.readAt (Elt F) arg3.view
    (⟨![7, 0], S512x128.size, ![8, 1], inb_S4096x128_S512x128_7_0_s_8_1⟩ : LoadRect S4096x128) (arg3.view.rep x0)
      = slab x0 7 := slab_load arg3 x0 7 _

theorem bcol_load0 : View.readAt (Elt F) arg5.view
    (Rect.unit (s := S1x1x1x2048) ![0, 0, 0, 0] S1x1x1x512.size inb_S1x1x1x2048_S1x1x1x512_0_0_0_0).toLoadRect
      (arg5.view.rep x2) = bcol x2 0 := bcol_load arg5 x2 0 0 rfl _

theorem bcol_load1 : View.readAt (Elt F) arg5.view
    (Rect.unit (s := S1x1x1x2048) ![0, 0, 0, 512] S1x1x1x512.size inb_S1x1x1x2048_S1x1x1x512_0_0_0_512).toLoadRect
      (arg5.view.rep x2) = bcol x2 1 := bcol_load arg5 x2 1 512 rfl _

theorem bcol_load2 : View.readAt (Elt F) arg5.view
    (Rect.unit (s := S1x1x1x2048) ![0, 0, 0, 1024] S1x1x1x512.size inb_S1x1x1x2048_S1x1x1x512_0_0_0_1024).toLoadRect
      (arg5.view.rep x2) = bcol x2 2 := bcol_load arg5 x2 2 1024 rfl _

theorem bcol_load3 : View.readAt (Elt F) arg5.view
    (Rect.unit (s := S1x1x1x2048) ![0, 0, 0, 1536] S1x1x1x512.size inb_S1x1x1x2048_S1x1x1x512_0_0_0_1536).toLoadRect
      (arg5.view.rep x2) = bcol x2 3 := bcol_load arg5 x2 3 1536 rfl _

/-! ## The two weight buffers -/

theorem fill_pay (o : ℕ) (h) (h') (x) :
    k0_pay9 (View.readAt (Elt F) arg4.view
        (Rect.unit (s := S1x1x1024x2048) ![0, 0, o, 0] S1x1x128x2048.size h).toLoadRect (arg4.view.rep x1)) x
      = wguv x1 ((Rect.unit (s := S1024x2048) ![o, 0] S128x2048.size h').emb x) := by
  rw [View.readAt_rep]
  unfold k0_pay9 wguv
  pointwise
  refine congrArg _ (congrArg x1 (funext fun a => Fin.ext ?_))
  match a with
  | 0 => rfl
  | 1 => rfl
  | 2 => show o + (x 0).val = o + 1 * (x 0).val; omega
  | 3 => show (x 1).val = 0 + 1 * (x 1).val; omega

theorem fill_mem (y : S1024x2048.Idx) (o : ℕ) (h : o ≤ (y 0).val ∧ (y 0).val < o + 128) (hb) :
    y ∈ (Rect.unit (s := S1024x2048) ![o, 0] S128x2048.size hb).set := by
  rw [Rect.mem_set_unit]
  intro a
  match a with
  | 0 => exact h
  | 1 => exact ⟨Nat.zero_le _, by have h1 : (y 1).val < 2048 := (y 1).isLt; show (y 1).val < 0 + 2048; omega⟩

theorem fill_read (v : View sig .tc .vmem S1024x2048 .bf16) (f) (y : S1024x2048.Idx) :
    v.read (Elt F) (v.writes (Elt F) f (runFresh.sl.HS0_8 arg4 x1)) y = wguv x1 y := by
  refine View.read_writes_apply_of_pieces v f (wguv x1) _ ?_ y ?_
  · unfold runFresh.sl.HS0_8
    simp only [List.forall_mem_cons, List.not_mem_nil, false_imp_iff, implies_true, and_true]
    exact ⟨fill_pay arg4 x1 896 _ _, fill_pay arg4 x1 768 _ _, fill_pay arg4 x1 640 _ _, fill_pay arg4 x1 512 _ _,
      fill_pay arg4 x1 384 _ _, fill_pay arg4 x1 256 _ _, fill_pay arg4 x1 128 _ _, fill_pay arg4 x1 0 _ _⟩
  · unfold runFresh.sl.HS0_8
    simp only [List.exists_mem_cons_iff, List.not_mem_nil, false_and, exists_false, or_false]
    have h1 : (y 0).val < 1024 := (y 0).isLt
    rcases Nat.lt_or_ge (y 0).val 512 with h | h
    · rcases Nat.lt_or_ge (y 0).val 256 with h | h
      · rcases Nat.lt_or_ge (y 0).val 128 with h | h
        · exact .inr (.inr (.inr (.inr (.inr (.inr (.inr (fill_mem y 0 (by omega) _)))))))
        · exact .inr (.inr (.inr (.inr (.inr (.inr (.inl (fill_mem y 128 (by omega) _)))))))
      · rcases Nat.lt_or_ge (y 0).val 384 with h | h
        · exact .inr (.inr (.inr (.inr (.inr (.inl (fill_mem y 256 (by omega) _))))))
        · exact .inr (.inr (.inr (.inr (.inl (fill_mem y 384 (by omega) _)))))
    · rcases Nat.lt_or_ge (y 0).val 768 with h | h
      · rcases Nat.lt_or_ge (y 0).val 640 with h | h
        · exact .inr (.inr (.inr (.inl (fill_mem y 512 (by omega) _))))
        · exact .inr (.inr (.inl (fill_mem y 640 (by omega) _)))
      · rcases Nat.lt_or_ge (y 0).val 896 with h | h
        · exact .inr (.inl (fill_mem y 768 (by omega) _))
        · exact .inl (fill_mem y 896 (by omega) _)

theorem fillD_pay (o : ℕ) (h) (h') (x) :
    k0_pay10 (View.readAt (Elt F) arg6.view
        (Rect.unit (s := S1x1x1024x1024) ![0, 0, o, 0] S1x1x128x1024.size h).toLoadRect (arg6.view.rep x3)) x
      = wdnv x3 ((Rect.unit (s := S1024x1024) ![o, 0] S128x1024.size h').emb x) := by
  rw [View.readAt_rep]
  unfold k0_pay10 wdnv
  pointwise
  refine congrArg _ (congrArg x3 (funext fun a => Fin.ext ?_))
  match a with
  | 0 => rfl
  | 1 => rfl
  | 2 => show o + (x 0).val = o + 1 * (x 0).val; omega
  | 3 => show (x 1).val = 0 + 1 * (x 1).val; omega

theorem fillD_mem (y : S1024x1024.Idx) (o : ℕ) (h : o ≤ (y 0).val ∧ (y 0).val < o + 128) (hb) :
    y ∈ (Rect.unit (s := S1024x1024) ![o, 0] S128x1024.size hb).set := by
  rw [Rect.mem_set_unit]
  intro a
  match a with
  | 0 => exact h
  | 1 => exact ⟨Nat.zero_le _, by have h1 : (y 1).val < 1024 := (y 1).isLt; show (y 1).val < 0 + 1024; omega⟩

theorem fillD_read (v : View sig .tc .vmem S1024x1024 .bf16) (f) (y : S1024x1024.Idx) :
    v.read (Elt F) (v.writes (Elt F) f (runFresh.sl.HS1_8 arg6 x3)) y = wdnv x3 y := by
  refine View.read_writes_apply_of_pieces v f (wdnv x3) _ ?_ y ?_
  · unfold runFresh.sl.HS1_8
    simp only [List.forall_mem_cons, List.not_mem_nil, false_imp_iff, implies_true, and_true]
    exact ⟨fillD_pay arg6 x3 896 _ _, fillD_pay arg6 x3 768 _ _, fillD_pay arg6 x3 640 _ _, fillD_pay arg6 x3 512 _ _,
      fillD_pay arg6 x3 384 _ _, fillD_pay arg6 x3 256 _ _, fillD_pay arg6 x3 128 _ _, fillD_pay arg6 x3 0 _ _⟩
  · unfold runFresh.sl.HS1_8
    simp only [List.exists_mem_cons_iff, List.not_mem_nil, false_and, exists_false, or_false]
    have h1 : (y 0).val < 1024 := (y 0).isLt
    rcases Nat.lt_or_ge (y 0).val 512 with h | h
    · rcases Nat.lt_or_ge (y 0).val 256 with h | h
      · rcases Nat.lt_or_ge (y 0).val 128 with h | h
        · exact .inr (.inr (.inr (.inr (.inr (.inr (.inr (fillD_mem y 0 (by omega) _)))))))
        · exact .inr (.inr (.inr (.inr (.inr (.inr (.inl (fillD_mem y 128 (by omega) _)))))))
      · rcases Nat.lt_or_ge (y 0).val 384 with h | h
        · exact .inr (.inr (.inr (.inr (.inr (.inl (fillD_mem y 256 (by omega) _))))))
        · exact .inr (.inr (.inr (.inr (.inl (fillD_mem y 384 (by omega) _)))))
    · rcases Nat.lt_or_ge (y 0).val 768 with h | h
      · rcases Nat.lt_or_ge (y 0).val 640 with h | h
        · exact .inr (.inr (.inr (.inl (fillD_mem y 512 (by omega) _))))
        · exact .inr (.inr (.inl (fillD_mem y 640 (by omega) _)))
      · rcases Nat.lt_or_ge (y 0).val 896 with h | h
        · exact .inr (.inl (fillD_mem y 768 (by omega) _))
        · exact .inl (fillD_mem y 896 (by omega) _)

theorem wcol_read (g : S1024x2048.Idx → Elt F .bf16) (k : Fin 4) (o : ℕ) (ho : o = 512 * k.val) (h) (p) :
    g ((Rect.unit (s := S1024x2048) ![0, o] S1024x512.size h).toLoadRect.idx p) = wcol g k p := by
  subst ho
  refine congrArg g (funext fun a => Fin.ext ?_)
  match a with
  | 0 => show 0 + 1 * (p 0).val = (p 0).val; omega
  | 1 => show 512 * k.val + 1 * (p 1).val = 512 * k.val + (p 1).val; omega

/-- A load of 512 columns after the refill. -/
theorem fill_col (k : Fin 4) (o : ℕ) (ho : o = 512 * k.val) (h) :
    wguM.view.readCov (runFresh.sl.HS0_8 arg4 x1)
        (Rect.unit (s := S1024x2048) ![0, o] S1024x512.size h).toLoadRect = wcol (wguv x1) k := by
  funext p
  unfold View.readCov
  rw [View.readAt_apply, fill_read]
  exact wcol_read (wguv x1) k o ho h p

/-- A load of 512 columns of the buffer as it is. -/
theorem held_col (a0 : Buf (Elt F) ((c.tc : Thread nD τ).loc cc0_scratch0)) (k : Fin 4) (o : ℕ) (ho : o = 512 * k.val) (h) :
    View.readAt (Elt F) wguM.view (Rect.unit (s := S1024x2048) ![0, o] S1024x512.size h).toLoadRect a0 = wcol a0 k := by
  funext p
  exact wcol_read a0 k o ho h p

theorem full_idx (g : S1024x1024.Idx → Elt F .bf16) (h) (p) :
    g ((Rect.unit (s := S1024x1024) ![0, 0] S1024x1024.size h).toLoadRect.idx p) = g p := by
  refine congrArg g (funext fun a => Fin.ext ?_)
  match a with
  | 0 => show 0 + 1 * (p 0).val = (p 0).val; omega
  | 1 => show 0 + 1 * (p 1).val = (p 1).val; omega

theorem fillD_full (h) : wdnM.view.readCov (runFresh.sl.HS1_8 arg6 x3)
      (Rect.unit (s := S1024x1024) ![0, 0] S1024x1024.size h).toLoadRect = wdnv x3 := by
  funext p
  unfold View.readCov
  rw [View.readAt_apply, fillD_read]
  exact full_idx (wdnv x3) h p

theorem held_full (a1 : Buf (Elt F) ((c.tc : Thread nD τ).loc cc0_scratch1)) (h) :
    View.readAt (Elt F) wdnM.view (Rect.unit (s := S1024x1024) ![0, 0] S1024x1024.size h).toLoadRect a1 = a1 := by
  funext p
  exact full_idx a1 h p

theorem bias_full (h) : View.readAt (Elt F) arg7.view
      (Rect.unit (s := S1x1x1x1024) ![0, 0, 0, 0] S1x1x1x1024.size h).toLoadRect (arg7.view.rep x4) = x4 := by
  rw [View.readAt_rep]
  funext p
  refine congrArg x4 (funext fun a => Fin.ext ?_)
  match a with
  | 0 => show 0 + 1 * (p 0).val = (p 0).val; omega
  | 1 => show 0 + 1 * (p 1).val = (p 1).val; omega
  | 2 => show 0 + 1 * (p 2).val = (p 2).val; omega
  | 3 => show 0 + 1 * (p 3).val = (p 3).val; omega

/-! ## The hidden activations -/

/-- The two stores of the activations. -/
def actPieces (a0 : S1024x2048.Idx → Elt F .bf16) : List (View.Piece (Elt F) S512x1024 .bf16) :=
  [⟨Rect.unit (s := S512x1024) ![0, 512] S512x512.size inb_S512x1024_S512x512_0_512, actR a0 x0 x2⟩,
   ⟨Rect.unit (s := S512x1024) ![0, 0] S512x512.size inb_S512x1024_S512x512_0_0, actL a0 x0 x2⟩]

theorem actPieces_read (a0 : S1024x2048.Idx → Elt F .bf16) (v : View sig .tc .vmem S512x1024 .bf16) (f) (y : S512x1024.Idx) :
    v.read (Elt F) (v.writes (Elt F) f (actPieces x0 x2 a0)) y = actv a0 x0 x2 y := by
  have h0 : (y 0).val < 512 := (y 0).isLt
  have h1 : (y 1).val < 1024 := (y 1).isLt
  refine View.read_writes_apply_of_pieces v f (actv a0 x0 x2) _ ?_ y ?_
  · unfold actPieces
    simp only [List.forall_mem_cons, List.not_mem_nil, false_imp_iff, implies_true, and_true]
    constructor
    · intro x
      have hx : (x 1).val < 512 := (x 1).isLt
      have hn : ¬ (((Rect.unit (s := S512x1024) ![0, 512] S512x512.size inb_S512x1024_S512x512_0_512).emb x) 1).val < 512 := by
        show ¬ 512 + 1 * (x 1).val < 512; omega
      unfold actv
      rw [dif_neg hn]
      refine congrArg _ (funext fun a => Fin.ext ?_)
      match a with
      | 0 => show (x 0).val = 0 + 1 * (x 0).val; omega
      | 1 => show (x 1).val = 512 + 1 * (x 1).val - 512; omega
    · intro x
      have hx : (x 1).val < 512 := (x 1).isLt
      have hn : (((Rect.unit (s := S512x1024) ![0, 0] S512x512.size inb_S512x1024_S512x512_0_0).emb x) 1).val < 512 := by
        show 0 + 1 * (x 1).val < 512; omega
      unfold actv
      rw [dif_pos hn]
      refine congrArg _ (funext fun a => Fin.ext ?_)
      match a with
      | 0 => show (x 0).val = 0 + 1 * (x 0).val; omega
      | 1 => show (x 1).val = 0 + 1 * (x 1).val; omega
  · unfold actPieces
    simp only [List.exists_mem_cons_iff, List.not_mem_nil, false_and, exists_false, or_false]
    rcases Nat.lt_or_ge (y 1).val 512 with h | h
    · refine .inr ?_
      rw [Rect.mem_set_unit]
      intro a
      match a with
      | 0 => exact ⟨Nat.zero_le _, by show (y 0).val < 0 + 512; omega⟩
      | 1 => exact ⟨Nat.zero_le _, by show (y 1).val < 0 + 512; omega⟩
    · refine .inl ?_
      rw [Rect.mem_set_unit]
      intro a
      match a with
      | 0 => exact ⟨Nat.zero_le _, by show (y 0).val < 0 + 512; omega⟩
      | 1 => exact ⟨h, by show (y 1).val < 512 + 512; omega⟩

theorem actPieces_full (a0 : S1024x2048.Idx → Elt F .bf16) (h) : actM.view.readCov (actPieces x0 x2 a0)
      (Rect.unit (s := S512x1024) ![0, 0] S512x1024.size h).toLoadRect = actv a0 x0 x2 := by
  funext p
  unfold View.readCov
  rw [View.readAt_apply, actPieces_read]
  refine congrArg (actv a0 x0 x2) (funext fun a => Fin.ext ?_)
  match a with
  | 0 => show 0 + 1 * (p 0).val = (p 0).val; omega
  | 1 => show 0 + 1 * (p 1).val = (p 1).val; omega

theorem actFresh : runFresh.sl.HS2_2 arg3 arg4 arg5 x0 x1 x2 = actPieces x0 x2 (wguv x1) := by
  have c0 := fill_col arg4 x1 0 0 rfl inb_S1024x2048_S1024x512_0_0
  have c1 := fill_col arg4 x1 1 512 rfl inb_S1024x2048_S1024x512_0_512
  have c2 := fill_col arg4 x1 2 1024 rfl inb_S1024x2048_S1024x512_0_1024
  have c3 := fill_col arg4 x1 3 1536 rfl inb_S1024x2048_S1024x512_0_1536
  unfold runFresh.sl.HS2_2 runFresh.sl.r_8 runFresh.sl.r_9 runFresh.sl.r_6 runFresh.sl.r_7 runFresh.sl.r_5
    runFresh.sl.v29 runFresh.sl.v35 runFresh.sl.v64 runFresh.sl.v70 actPieces actR actL rowsv
  rw [c0, c1, c2, c3]
  rw [slab_load0, slab_load1, slab_load2, slab_load3, slab_load4, slab_load5, slab_load6, slab_load7, bcol_load0, bcol_load1, bcol_load2, bcol_load3]

theorem actMore (a0 : Buf (Elt F) ((c.tc : Thread nD τ).loc cc0_scratch0)) :
    runMore.sl.HS2_2 c arg3 arg5 x0 x2 a0 = actPieces x0 x2 a0 := by
  have c0 := held_col c a0 0 0 rfl inb_S1024x2048_S1024x512_0_0
  have c1 := held_col c a0 1 512 rfl inb_S1024x2048_S1024x512_0_512
  have c2 := held_col c a0 2 1024 rfl inb_S1024x2048_S1024x512_0_1024
  have c3 := held_col c a0 3 1536 rfl inb_S1024x2048_S1024x512_0_1536
  unfold runMore.sl.HS2_2 runMore.sl.r_4 runMore.sl.r_5 runMore.sl.r_6 runMore.sl.r_7 runMore.sl.r_3 actPieces actR actL rowsv
  rw [c0, c1, c2, c3]
  rw [slab_load0, slab_load1, slab_load2, slab_load3, slab_load4, slab_load5, slab_load6, slab_load7, bcol_load0, bcol_load1, bcol_load2, bcol_load3]

/-! ## The result -/

/-- The eight stores of a block's result. -/
def outPieces (y : FVec F S512x1024 .f32) : List (View.Piece (Elt F) S4096x128 .f32) :=
  [⟨⟨(⟨![7, 0], S512x128.size, ![8, 1], inb_S4096x128_S512x128_7_0_s_8_1⟩ : LoadRect S4096x128), spos_8_1⟩,
     extractStridedSlice S512x128 ![0, 896] y slices_S512x1024_o0_896_S512x128⟩,
   ⟨⟨(⟨![6, 0], S512x128.size, ![8, 1], inb_S4096x128_S512x128_6_0_s_8_1⟩ : LoadRect S4096x128), spos_8_1⟩,
     extractStridedSlice S512x128 ![0, 768] y slices_S512x1024_o0_768_S512x128⟩,
   ⟨⟨(⟨![5, 0], S512x128.size, ![8, 1], inb_S4096x128_S512x128_5_0_s_8_1⟩ : LoadRect S4096x128), spos_8_1⟩,
     extractStridedSlice S512x128 ![0, 640] y slices_S512x1024_o0_640_S512x128⟩,
   ⟨⟨(⟨![4, 0], S512x128.size, ![8, 1], inb_S4096x128_S512x128_4_0_s_8_1⟩ : LoadRect S4096x128), spos_8_1⟩,
     extractStridedSlice S512x128 ![0, 512] y slices_S512x1024_o0_512_S512x128⟩,
   ⟨⟨(⟨![3, 0], S512x128.size, ![8, 1], inb_S4096x128_S512x128_3_0_s_8_1⟩ : LoadRect S4096x128), spos_8_1⟩,
     extractStridedSlice S512x128 ![0, 384] y slices_S512x1024_o0_384_S512x128⟩,
   ⟨⟨(⟨![2, 0], S512x128.size, ![8, 1], inb_S4096x128_S512x128_2_0_s_8_1⟩ : LoadRect S4096x128), spos_8_1⟩,
     extractStridedSlice S512x128 ![0, 256] y slices_S512x1024_o0_256_S512x128⟩,
   ⟨⟨(⟨![1, 0], S512x128.size, ![8, 1], inb_S4096x128_S512x128_1_0_s_8_1⟩ : LoadRect S4096x128), spos_8_1⟩,
     extractStridedSlice S512x128 ![0, 128] y slices_S512x1024_o0_128_S512x128⟩,
   ⟨⟨(⟨![0, 0], S512x128.size, ![8, 1], inb_S4096x128_S512x128_0_0_s_8_1⟩ : LoadRect S4096x128), spos_8_1⟩,
     extractStridedSlice S512x128 ![0, 0] y slices_S512x1024_o0_0_S512x128⟩]

theorem out_mem (y : S4096x128.Idx) (k : ℕ) (h : (y 0).val % 8 = k) (hb) (hs) :
    y ∈ (⟨(⟨![k, 0], S512x128.size, ![8, 1], hb⟩ : LoadRect S4096x128), hs⟩ : Rect S4096x128).set := by
  refine (LoadRect.mem_set _).mpr ?_
  intro a
  match a with
  | 0 => exact ⟨(y 0).val / 8, by have h0 : (y 0).val < 4096 := (y 0).isLt; show (y 0).val / 8 < 512; omega,
      by show (y 0).val = k + 8 * ((y 0).val / 8); omega⟩
  | 1 => exact ⟨(y 1).val, (y 1).isLt, by show (y 1).val = 0 + 1 * (y 1).val; omega⟩

theorem out_pay (y : FVec F S512x1024 .f32) (k o : ℕ) (hk : k < 8) (ho : o = 128 * k) (hsl) (hb) (hs) (x) :
    extractStridedSlice S512x128 ![0, o] y hsl x
      = outv y ((⟨(⟨![k, 0], S512x128.size, ![8, 1], hb⟩ : LoadRect S4096x128), hs⟩ : Rect S4096x128).emb x) := by
  subst ho
  have h0 : (x 0).val < 512 := (x 0).isLt
  have h1 : (x 1).val < 128 := (x 1).isLt
  refine congrArg y (funext fun a => Fin.ext ?_)
  match a with
  | 0 => show 0 + (x 0).val = (k + 8 * (x 0).val) / 8; omega
  | 1 => show 128 * k + (x 1).val = 128 * ((k + 8 * (x 0).val) % 8) + (0 + 1 * (x 1).val); omega

theorem outPieces_read (y : FVec F S512x1024 .f32) (v : View sig .tc .vmem S4096x128 .f32) (f) :
    v.read (Elt F) (v.writes (Elt F) f (outPieces y)) = outv y := by
  funext p
  refine View.read_writes_apply_of_pieces v f (outv y) _ ?_ p ?_
  · unfold outPieces
    simp only [List.forall_mem_cons, List.not_mem_nil, false_imp_iff, implies_true, and_true]
    exact ⟨out_pay y 7 896 (by decide) rfl _ _ _,
      out_pay y 6 768 (by decide) rfl _ _ _,
      out_pay y 5 640 (by decide) rfl _ _ _,
      out_pay y 4 512 (by decide) rfl _ _ _,
      out_pay y 3 384 (by decide) rfl _ _ _,
      out_pay y 2 256 (by decide) rfl _ _ _,
      out_pay y 1 128 (by decide) rfl _ _ _,
      out_pay y 0 0 (by decide) rfl _ _ _⟩
  · unfold outPieces
    simp only [List.exists_mem_cons_iff, List.not_mem_nil, false_and, exists_false, or_false]
    have hlt : (p 0).val % 8 < 8 := Nat.mod_lt _ (by decide)
    rcases (by omega : (p 0).val % 8 = 7 ∨ (p 0).val % 8 = 6 ∨ (p 0).val % 8 = 5 ∨ (p 0).val % 8 = 4 ∨ (p 0).val % 8 = 3 ∨ (p 0).val % 8 = 2 ∨ (p 0).val % 8 = 1 ∨ (p 0).val % 8 = 0) with h | h | h | h | h | h | h | h
    · exact .inl (out_mem p 7 h _ spos_8_1)
    · exact .inr (.inl (out_mem p 6 h _ spos_8_1))
    · exact .inr (.inr (.inl (out_mem p 5 h _ spos_8_1)))
    · exact .inr (.inr (.inr (.inl (out_mem p 4 h _ spos_8_1))))
    · exact .inr (.inr (.inr (.inr (.inl (out_mem p 3 h _ spos_8_1)))))
    · exact .inr (.inr (.inr (.inr (.inr (.inl (out_mem p 2 h _ spos_8_1))))))
    · exact .inr (.inr (.inr (.inr (.inr (.inr (.inl (out_mem p 1 h _ spos_8_1)))))))
    · exact .inr (.inr (.inr (.inr (.inr (.inr (.inr (out_mem p 0 h _ spos_8_1)))))))

variable (a0 : Buf (Elt F) ((c.tc : Thread nD τ).loc cc0_scratch0)) (a1 : Buf (Elt F) ((c.tc : Thread nD τ).loc cc0_scratch1))
  (a2 : Buf (Elt F) ((c.tc : Thread nD τ).loc cc0_scratch2))

theorem runFresh_out (h1 hc h3) :
    (runFresh c i arg3 harg3 arg4 harg4 arg5 harg5 arg6 harg6 arg7 harg7 arg8 harg8 T0 T1 x0 x1 x2 x3 x4 h1 hc h3).1
      = outPieces (yv (wguv x1) (wdnv x3) x0 x2 x4) := by
  unfold runFresh runFresh.sl.r_10 runFresh.sl.r_11 runFresh.sl.v99 runFresh.sl.v100
  dsimp only
  rw [actFresh, actPieces_full, fillD_full, bias_full]
  rfl

theorem wgu_whole (g : Buf (Elt F) ((c.tc : Thread nD τ).loc cc0_scratch0)) : wguM.view.read (Elt F) g = g := rfl

theorem wgu_filled (f) : wguM.view.read (Elt F) (wguM.view.writes (Elt F) f (runFresh.sl.HS0_8 arg4 x1)) = wguv x1 := by
  funext y
  exact fill_read arg4 x1 wguM.view f y

theorem runFresh_wgu (h1 hc h3) :
    @Eq (Buf (Elt F) ((c.tc : Thread nD τ).loc cc0_scratch0))
      (runFresh c i arg3 harg3 arg4 harg4 arg5 harg5 arg6 harg6 arg7 harg7 arg8 harg8 T0 T1 x0 x1 x2 x3 x4 h1 hc h3).2.1
      (wguv x1) := by
  unfold runFresh
  dsimp only
  rw [← wgu_whole c (wguM.view.writes (Elt F) wguM.view.junk (runFresh.sl.HS0_8 arg4 x1))]
  exact wgu_filled _ _ _

theorem wdn_whole (g : Buf (Elt F) ((c.tc : Thread nD τ).loc cc0_scratch1)) : wdnM.view.read (Elt F) g = g := rfl

theorem wdn_filled (f) : wdnM.view.read (Elt F) (wdnM.view.writes (Elt F) f (runFresh.sl.HS1_8 arg6 x3)) = wdnv x3 := by
  funext y
  exact fillD_read arg6 x3 wdnM.view f y

theorem runFresh_wdn (h1 hc h3) :
    @Eq (Buf (Elt F) ((c.tc : Thread nD τ).loc cc0_scratch1))
      (runFresh c i arg3 harg3 arg4 harg4 arg5 harg5 arg6 harg6 arg7 harg7 arg8 harg8 T0 T1 x0 x1 x2 x3 x4 h1 hc h3).2.2.1
      (wdnv x3) := by
  unfold runFresh
  dsimp only
  rw [← wdn_whole c (wdnM.view.writes (Elt F) wdnM.view.junk (runFresh.sl.HS1_8 arg6 x3))]
  exact wdn_filled _ _ _

theorem runMore_out (h1 hc h3) :
    (runMore c i arg3 harg3 arg4 harg4 arg5 harg5 arg6 harg6 arg7 harg7 arg8 harg8 T0 T1 x0 x1 x2 x3 x4 a0 a1 h1 hc h3).1
      = outPieces (yv a0 a1 x0 x2 x4) := by
  unfold runMore runMore.sl.r_8 runMore.sl.r_9 runMore.sl.v99
  dsimp only
  rw [actMore, actPieces_full, held_full, bias_full]
  rfl

theorem runPast_read (h1 hc h3) (v : View sig .tc .vmem S4096x128 .f32) (f) :
    v.read (Elt F) (v.writes (Elt F) f
      (runPast c i arg3 harg3 arg4 harg4 arg5 harg5 arg6 harg6 arg7 harg7 arg8 harg8 T0 T1 x0 x1 x2 x3 x4 a0 a1 a2 h1 hc h3).1)
      = k0_pay1 (F := F) := by
  funext y
  refine View.read_writes_apply_of_pieces v f (k0_pay1 (F := F)) _ ?_ y ?_
  · intro p hp x
    have hp' : p ∈ [(⟨Rect.unit (s := S4096x128) ![0, 0] S4096x128.size inb_S4096x128_S4096x128_0_0, k0_pay1 (F := F)⟩ :
      View.Piece (Elt F) S4096x128 .f32)] := hp
    rw [List.mem_singleton] at hp'
    subst hp'
    rfl
  · refine ⟨⟨Rect.unit (s := S4096x128) ![0, 0] S4096x128.size inb_S4096x128_S4096x128_0_0, k0_pay1 (F := F)⟩,
      List.mem_singleton.mpr rfl, ?_⟩
    rw [Rect.mem_set_unit]
    intro a
    match a with
    | 0 => exact ⟨Nat.zero_le _, by have h0 : (y 0).val < 4096 := (y 0).isLt; show (y 0).val < 0 + 4096; omega⟩
    | 1 => exact ⟨Nat.zero_le _, by have h0 : (y 1).val < 128 := (y 1).isLt; show (y 1).val < 0 + 128; omega⟩

end Cert.KernelIdeal.Hand
-- ==== Proof.Tables.lean ====
module

public import proofs.«01_k».proof.Proof.Gen.KernelIdeal.Launch
public import Idealize.ShloMosaic.Lib.StableHlo.ReadAt
public import Idealize.ShloMosaic.Lib.StableHlo.Predicate

@[expose] public section

set_option maxRecDepth 16384

noncomputable section

/-! # The two tables the launch prefetches: the number of blocks in use, and each block's expert -/

namespace Cert.KernelIdeal.Hand

open Idealize.ShloMosaic Idealize.SL.Sem Cert.KernelIdeal Cert.KernelIdeal.Gen

variable {F : FTy → Type} [FloatOps F]

/-- The host operations before the launch, stretch by stretch. -/
abbrev opss : List (List (HloOp τ sig (Elt F))) :=
  [hostOps0, hostOps0_1, hostOps0_2, hostOps0_3, hostOps0_4, hostOps0_5, hostOps0_6]

/-- Where each expert's rows end: the running sums of the counts, each rounded up to whole blocks of 512. -/
def ends (x : IVec S32 32) : IVec S32 32 :=
  let y : IVec S32 32 := subi (addi x (broadcastInDim S32 ![] bcast_S_S32 (constantI S_ 32 512#32))) (broadcastInDim S32 ![] bcast_S_S32 (constantI S_ 32 1#32))
  let d : IVec S32 32 := broadcastInDim S32 ![] bcast_S_S32 (id (constantI S_ 32 512#32))
  Host.reduceWindow IntOp.addi ![32] ![1] ![31] ![0]
    (muli
      (select
        (andi (cmpi .ne (signi y) (broadcastInDim S32 ![] bcast_S_S32 (signi (id (constantI S_ 32 512#32)))))
          (cmpi .ne (Host.remsi y d) (broadcastInDim S32 ![] bcast_S_S32 (constantI S_ 32 0#32))))
        (subi (Host.divsi y d) (broadcastInDim S32 ![] bcast_S_S32 (constantI S_ 32 1#32))) (Host.divsi y d))
      (broadcastInDim S32 ![] bcast_S_S32 (constantI S_ 32 512#32)))
    (broadcastInDim S_ ![] bcast_S_S_ (constantI S_ 32 0#32)) reduceWindows_S32_S32_w32s1p31_0 h_S_

/-- The last of those ends: the number of rows in use. -/
def total (x : IVec S32 32) : BitVec 32 := ends x (ix1 31)

/-- There is at least one block in use. -/
def Some1 (x : IVec S32 32) : Prop := (512#32).sle (total x) = true

/-- The number of blocks in use. -/
def nblk (x : IVec S32 32) : ℕ := (total x).toNat / 512

/-- The expert whose rows hold row `s`: the number of experts whose rows end at or before it, at most 31. -/
def expertOf (E : IVec S32 32) (s : BitVec 32) : BitVec 32 :=
  BitVec.ofNat 32 (min (Finset.univ.filter fun q : Fin 32 => (E (ix1 q)).sle s = true).card 31)

theorem Some1.bounds {x : IVec S32 32} (h : Some1 x) : 512 ≤ (total x).toNat ∧ (total x).toNat < 2 ^ 31 := by
  unfold Some1 at h
  rw [BitVec.sle_iff_toInt_le] at h
  have e : (512#32).toInt = 512 := rfl
  rw [e] at h
  have := (total x).isLt
  rw [BitVec.toInt_eq_toNat_cond] at h
  split at h <;> omega

theorem Some1.nblk_pos {x : IVec S32 32} (h : Some1 x) : 1 ≤ nblk x ∧ nblk x < 2 ^ 22 := by
  obtain ⟨h0, h1⟩ := h.bounds
  unfold nblk
  omega

/-- Dividing a positive number of rows by 512, rounding down. -/
theorem floor_div (p : BitVec 32) (h0 : 512 ≤ p.toNat) (h1 : p.toNat < 2 ^ 31) :
    Scalar.select (IntOp.andi (IntOp.cmpi .ne (if p = 0 then (0 : BitVec 32) else if p.msb = true then -1 else 1)
        (if (512#32 : BitVec 32) = 0 then (0 : BitVec 32) else if BitVec.msb (512#32) = true then -1 else 1))
      (IntOp.cmpi .ne (IntOp.remsi .host p 512#32) 0#32))
      (IntOp.subi (IntOp.divsi .host p 512#32) 1#32) (IntOp.divsi .host p 512#32) = BitVec.ofNat 32 (p.toNat / 512) := by
  have hp : p ≠ 0 := by rintro rfl; simp at h0
  have hm : p.msb = false := by rw [BitVec.msb_eq_decide]; simp; omega
  have hd : IntOp.divsi .host p 512#32 = BitVec.ofNat 32 (p.toNat / 512) := by
    unfold IntOp.divsi
    rw [if_neg (by simp [IntOp.SDivCorner])]
    rw [BitVec.sdiv_eq]
    rw [hm]
    have : (512#32 : BitVec 32).msb = false := rfl
    rw [this]
    apply BitVec.eq_of_toNat_eq
    simp
    omega
  rw [hd, if_neg hp, hm]
  have e : (if (512#32 : BitVec 32) = 0 then (0 : BitVec 32) else if BitVec.msb (512#32) = true then -1 else 1) = 1 := by decide
  rw [e]
  simp [Scalar.select, IntOp.andi, IntOp.cmpi]

theorem nv_at (b0 : Valuation τ sig (Elt F)) (x : IVec S32 32) (hx : b0 (Proc.devRef .tc main_arg0) = x) (h : Some1 x) :
    StableHlo.after opss.flatten b0 (Proc.devRef .tc main_v9) = (fun _ => BitVec.ofNat 32 (nblk x) : IVec S1 32) := by
  funext j
  simp only [opss, List.flatten_cons, List.flatten_nil, List.cons_append, List.nil_append, List.append_nil]
  after_reads_at
  rw [hx]
  exact floor_div (total x) h.bounds.1 h.bounds.2

theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  have h : ∀ n : ℕ, n < 2 ^ 31 → (BitVec.ofNat 32 n).toInt = n := fun n hn => by
    rw [BitVec.toInt_eq_toNat_cond, BitVec.toNat_ofNat, Nat.mod_eq_of_lt (by omega)]
    rw [if_pos (by omega)]
  by_cases hab : a < b
  · rw [if_pos (by rw [BitVec.slt_iff_toInt_lt, h a ha, h b hb]; omega), Nat.min_eq_left (by omega)]
  · rw [if_neg (by rw [BitVec.slt_iff_toInt_lt, h a ha, h b hb]; omega), Nat.min_eq_right (by omega)]

/-- The expert of a row, as the host computes it: a sum of comparisons, at most 31. -/
theorem expert_sum {s t : Shape} (n : ℕ) (j : Fin n) (E : IVec S32 32) (mask : IVec ⟨2, ![n, 32]⟩ 1) (w : BitVec 32)
    (hmask : ∀ q : Fin 32, mask (ix2 j q) = IntOp.cmpi .sle (E (ix1 q)) w)
    (h : (⟨2, ![n, 32]⟩ : Shape).ReducesTo [1] ⟨1, ![n]⟩) {u : Shape} (hu : 0 < u.numel) (hw : 1 < 32) :
    IntOp.minsi (Host.reduce IntOp.addi (extui 32 mask hw) (constantI u 32 0#32) h hu (ix1 j)) 31#32 = expertOf E w := by
  have e : Host.reduce IntOp.addi (extui 32 mask hw) (constantI u 32 0#32) h hu (ix1 j)
      = BitVec.ofNat 32 (Finset.univ.filter fun q : Fin 32 => (E (ix1 q)).sle w = true).card := by
    apply BitVec.eq_of_toNat_eq
    have hc : (Finset.univ.filter fun q : Fin 32 => (E (ix1 q)).sle w = true).card ≤ 32 := by
      simpa using Finset.card_le_univ (Finset.univ.filter fun q : Fin 32 => (E (ix1 q)).sle w = true)
    rw [StableHlo.Predicate.toNat_reduce_count_cols (by norm_num), BitVec.toNat_ofNat, Nat.mod_eq_of_lt (by omega)]
    refine congrArg Finset.card (Finset.filter_congr fun q _ => ?_)
    have : StableHlo.Predicate.ij ((ix1 j : (⟨1, ![n]⟩ : Shape).Idx) 0) q = ix2 j q := by
      funext b
      match b with
      | ⟨0, _⟩ => rfl
      | ⟨1, _⟩ => rfl
    refine (iff_of_eq (congrArg (fun i => mask i = 1#1) this)).trans ?_
    rw [hmask]
    unfold IntOp.cmpi
    cases (E (ix1 q)).sle w <;> simp
  have hc : (Finset.univ.filter fun q : Fin 32 => (E (ix1 q)).sle w = true).card ≤ 32 := by
      simpa using Finset.card_le_univ (Finset.univ.filter fun q : Fin 32 => (E (ix1 q)).sle w = true)
  rw [e]
  exact minsi_ofNat _ 31 (by omega) (by omega)

theorem expertOf_lt (E : IVec S32 32) (w : BitVec 32) : (expertOf E w).toNat < 32 := by
  unfold expertOf
  rw [BitVec.toNat_ofNat, Nat.mod_eq_of_lt (by omega)]
  omega

theorem be_at (b0 : Valuation τ sig (Elt F)) (x : IVec S32 32) (hx : b0 (Proc.devRef .tc main_arg0) = x) (h : Some1 x) :
    StableHlo.after opss.flatten b0 (Proc.devRef .tc main_v25)
      = (fun j => expertOf (ends x) (BitVec.ofNat 32 (512 * min (j 0).val (nblk x - 1))) : IVec S176 32) := by
  have hnv := nv_at b0 x hx h
  funext j
  obtain ⟨j, rfl⟩ : ∃ j' : Fin 176, j = ix1 j' := ⟨j 0, by funext a; match a with | ⟨0, _⟩ => rfl⟩
  simp only [opss, List.flatten_cons, List.flatten_nil, List.cons_append, List.nil_append, List.append_nil] at hnv ⊢
  after_reads_at
  refine expert_sum (s := S1) (t := S1) 176 j (ends x) _ _ ?_ _ _ _
  intro q
  pointwise
  rw [hx]
  refine congrArg (IntOp.cmpi .sle (ends x (ix1 q))) ?_
  have hf := floor_div (total x) h.bounds.1 h.bounds.2
  have hj : j.val < 176 := j.isLt
  have hb := h.nblk_pos
  have hs : IntOp.subi (BitVec.ofNat 32 (nblk x)) 1#32 = BitVec.ofNat 32 (nblk x - 1) := by
    apply BitVec.eq_of_toNat_eq
    simp [IntOp.subi]
    omega
  refine (congrArg (fun w => IntOp.muli (IntOp.minsi (BitVec.ofNat 32 j.val) (IntOp.subi w 1#32)) 512#32) hf).trans ?_
  show IntOp.muli (IntOp.minsi (BitVec.ofNat 32 j.val) (IntOp.subi (BitVec.ofNat 32 (nblk x)) 1#32)) 512#32 = _
  rw [hs, minsi_ofNat _ _ (by omega) (by omega)]
  apply BitVec.eq_of_toNat_eq
  simp [IntOp.muli]
  omega

end Cert.KernelIdeal.Hand

end
-- ==== Proof.Cfg.lean ====
module

public import proofs.«01_k».proof.Proof.Block
public import proofs.«01_k».proof.Proof.Tables

@[expose] public section

set_option maxRecDepth 16384

noncomputable section

/-! # The launch at the tables: which block each window stages, and which path each grid point takes -/

namespace Cert.KernelIdeal.Hand

open Cert.KernelIdeal Cert.KernelIdeal.Gen
open Idealize.ShloMosaic
open Idealize.ShloMosaic.TcCoe

variable {F : FTy → Type} [FloatOps F] (x : IVec S32 32)

/-- The expert of block `n`; past the last block in use, that of the last. -/
def expN (n : ℕ) : BitVec 32 := expertOf (ends x) (BitVec.ofNat 32 (512 * min n (nblk x - 1)))

/-- The table of experts by block. -/
def tE : IVec S176 32 := fun j => expN x (j 0).val

/-- The table that holds the number of blocks in use. -/
def tN : IVec S1 32 := fun _ => BitVec.ofNat 32 (nblk x)

/-- The two tables. -/
def pf : pre0.Contents (Elt F) := fun | ⟨0, _⟩ => tE x | ⟨1, _⟩ => tN x | ⟨_ + 2, h⟩ => absurd h (by simp)

theorem expN_lt (n : ℕ) : (expN x n).toNat < 32 := expertOf_lt _ _

variable (i : grid0.Coords)

theorem i_lt : (i 0).val < 176 := (i 0).isLt

theorem off1_eq : k0_off1 i = ![(i 0).val] := by
  have h := i_lt i
  unfold k0_off1
  simp only [Scalar.indexCast, BitVec.toNat_ofNat]
  rw [Nat.mod_eq_of_lt (by omega)]

theorem off2_eq : k0_off2 i = ![(i 0).val - 1] := by
  have h : ∀ n : Fin 176, (Scalar.indexCast (Scalar.maxsi (Scalar.subi (BitVec.ofNat 32 n.val) 1#32) 0#32)).toNat = n.val - 1 := by
    decide +kernel
  exact congrArg (fun n => ![n]) (h ⟨(i 0).val, i_lt i⟩)

theorem wordN_eq : wordN (F := F) (tN x) = BitVec.ofNat 32 (nblk x) := rfl

theorem wordE_eq : wordE (F := F) i (tE x) = expN x (i 0).val := by
  have h := i_lt i
  show expN x _ = _
  refine congrArg (expN x) ?_
  show (k0_off1 i 0 + 1 * 0) = _
  rw [off1_eq]
  simp

theorem wordP_eq : wordP (F := F) i (tE x) = expN x ((i 0).val - 1) := by
  have h := i_lt i
  show expN x _ = _
  refine congrArg (expN x) ?_
  show (k0_off2 i 0 + 1 * 0) = _
  rw [off2_eq]
  simp

theorem tr0_eq (h : Some1 x) : cc0_transform_0 (F := F) inb_S1_S1_0 numel1_S1 (pf x) i = ![min (i 0).val (nblk x - 1), 0] := by
  have hi := i_lt i
  have hb := h.nblk_pos
  show ![(IntOp.minsi (BitVec.ofNat 32 (i 0).val) (IntOp.subi (BitVec.ofNat 32 (nblk x)) 1#32)).toNat, 0] = _
  have hs : IntOp.subi (BitVec.ofNat 32 (nblk x)) 1#32 = BitVec.ofNat 32 (nblk x - 1) := by
    apply BitVec.eq_of_toNat_eq
    simp [IntOp.subi]
    omega
  rw [hs, minsi_ofNat _ _ (by omega) (by omega), BitVec.toNat_ofNat, Nat.mod_eq_of_lt (by omega)]

theorem tr1_eq : cc0_transform_1 (F := F) k0_off1_inb numel1_S1 (pf x) i = ![0, (expN x (i 0).val).toNat, 0, 0] := by
  have e : wordE (F := F) i (tE x) = _ := wordE_eq x i
  exact congrArg (fun w : BitVec 32 => ![0, w.toNat, 0, 0]) e
theorem tr2_eq : cc0_transform_2 (F := F) k0_off1_inb numel1_S1 (pf x) i = ![0, (expN x (i 0).val).toNat, 0, 0] := by
  have e : wordE (F := F) i (tE x) = _ := wordE_eq x i
  exact congrArg (fun w : BitVec 32 => ![0, w.toNat, 0, 0]) e
theorem tr3_eq : cc0_transform_3 (F := F) k0_off1_inb numel1_S1 (pf x) i = ![0, (expN x (i 0).val).toNat, 0, 0] := by
  have e : wordE (F := F) i (tE x) = _ := wordE_eq x i
  exact congrArg (fun w : BitVec 32 => ![0, w.toNat, 0, 0]) e
theorem tr4_eq : cc0_transform_4 (F := F) k0_off1_inb numel1_S1 (pf x) i = ![0, (expN x (i 0).val).toNat, 0, 0] := by
  have e : wordE (F := F) i (tE x) = _ := wordE_eq x i
  exact congrArg (fun w : BitVec 32 => ![0, w.toNat, 0, 0]) e

/-- Every window's block lies in its array. -/
theorem ok_pf (h : Some1 x) : ok0 (F := F) (pf x) := by
  refine ⟨fun i => ⟨?_, .inl rfl⟩, fun i => ⟨?_, .inl rfl⟩, fun i => ⟨?_, .inl rfl⟩, fun i => ⟨?_, .inl rfl⟩, fun i => ⟨?_, .inl rfl⟩⟩
  · rw [tr0_eq x i h]
    have hi := i_lt i
    intro a
    match a with
    | ⟨0, _⟩ => show (min (i 0).val (nblk x - 1) + 1) * 4096 ≤ 720896; omega
    | ⟨1, _⟩ => show (0 + 1) * 128 ≤ 128; omega
  · rw [tr1_eq x i]
    have he := expN_lt x (i 0).val
    intro a
    match a with
    | ⟨0, _⟩ => show (0 + 1) * 1 ≤ 4; decide
    | ⟨1, _⟩ => show ((expN x (i 0).val).toNat + 1) * 1 ≤ 32; omega
    | ⟨2, _⟩ => show (0 + 1) * 1024 ≤ 1024; omega
    | ⟨3, _⟩ => show (0 + 1) * 2048 ≤ 2048; omega
  · rw [tr2_eq x i]
    have he := expN_lt x (i 0).val
    intro a
    match a with
    | ⟨0, _⟩ => show (0 + 1) * 1 ≤ 4; decide
    | ⟨1, _⟩ => show ((expN x (i 0).val).toNat + 1) * 1 ≤ 32; omega
    | ⟨2, _⟩ => show (0 + 1) * 1 ≤ 1; omega
    | ⟨3, _⟩ => show (0 + 1) * 2048 ≤ 2048; omega
  · rw [tr3_eq x i]
    have he := expN_lt x (i 0).val
    intro a
    match a with
    | ⟨0, _⟩ => show (0 + 1) * 1 ≤ 4; decide
    | ⟨1, _⟩ => show ((expN x (i 0).val).toNat + 1) * 1 ≤ 32; omega
    | ⟨2, _⟩ => show (0 + 1) * 1024 ≤ 1024; omega
    | ⟨3, _⟩ => show (0 + 1) * 1024 ≤ 1024; omega
  · rw [tr4_eq x i]
    have he := expN_lt x (i 0).val
    intro a
    match a with
    | ⟨0, _⟩ => show (0 + 1) * 1 ≤ 4; decide
    | ⟨1, _⟩ => show ((expN x (i 0).val).toNat + 1) * 1 ≤ 32; omega
    | ⟨2, _⟩ => show (0 + 1) * 1 ≤ 1; omega
    | ⟨3, _⟩ => show (0 + 1) * 1024 ≤ 1024; omega

theorem slt_ofNat (a b : ℕ) (ha : a < 2 ^ 31) (hb : b < 2 ^ 31) :
    (BitVec.ofNat 32 a).slt (BitVec.ofNat 32 b) = decide (a < b) := by
  have h : ∀ n : ℕ, n < 2 ^ 31 → (BitVec.ofNat 32 n).toInt = n := fun n hn => by
    rw [BitVec.toInt_eq_toNat_cond, BitVec.toNat_ofNat, Nat.mod_eq_of_lt (by omega)]
    rw [if_pos (by omega)]
  rw [Bool.eq_iff_iff, BitVec.slt_iff_toInt_lt, h a ha, h b hb]
  simp

theorem cond1_iff (h : Some1 x) : k0_cond1 i (BitVec.ofNat 32 (nblk x)) = 1#1 ↔ nblk x ≤ (i 0).val := by
  have hi := i_lt i
  have hb := h.nblk_pos
  unfold k0_cond1
  simp only [Scalar.cmpi, IntOp.cmpi, slt_ofNat (i 0).val (nblk x) (by omega) (by omega)]
  by_cases hc : (i 0).val < nblk x
  · simp [hc, Scalar.xori, IntOp.xori, Scalar.extui]
  · simp [hc, Scalar.xori, IntOp.xori, Scalar.extui]; omega

theorem cond3_iff (h : Some1 x) : k0_cond3 i (BitVec.ofNat 32 (nblk x)) = 1#1 ↔ (i 0).val < nblk x := by
  have hi := i_lt i
  have hb := h.nblk_pos
  unfold k0_cond3
  simp only [Scalar.cmpi, IntOp.cmpi, slt_ofNat (i 0).val (nblk x) (by omega) (by omega)]
  by_cases hc : (i 0).val < nblk x
  · simp [hc, Scalar.extui]
  · simp [hc, Scalar.extui]

theorem fresh_iff (h : Some1 x) : wordFresh (F := F) i (tE x) (tN x) = 1#1
    ↔ (i 0).val < nblk x ∧ ((i 0).val = 0 ∨ expN x (i 0).val ≠ expN x ((i 0).val - 1)) := by
  have hi := i_lt i
  have hb := h.nblk_pos
  unfold wordFresh
  rw [wordN_eq, wordE_eq, wordP_eq]
  simp only [Scalar.cmpi, IntOp.cmpi, slt_ofNat (i 0).val (nblk x) (by omega) (by omega)]
  have h0 : (BitVec.ofNat 32 (i 0).val == 0#32) = decide ((i 0).val = 0) := by
    rw [Bool.eq_iff_iff, beq_iff_eq, decide_eq_true_iff]
    constructor
    · intro e
      have := congrArg BitVec.toNat e
      simp only [BitVec.toNat_ofNat] at this
      omega
    · intro e; rw [e]
  have h1 : (expN x (i 0).val != expN x ((i 0).val - 1)) = decide (expN x (i 0).val ≠ expN x ((i 0).val - 1)) := by
    rw [Bool.eq_iff_iff, bne_iff_ne, decide_eq_true_iff]
  rw [h0, h1]
  have hb : ∀ p q r : Bool, Scalar.cmpi .ne (Scalar.extui (Scalar.andi (BitVec.ofBool p)
      (Scalar.ori (BitVec.ofBool q) (BitVec.ofBool r)))) 0#32 = 1#1 ↔ p = true ∧ (q = true ∨ r = true) := by
    decide
  refine (hb _ _ _).trans ?_
  simp only [decide_eq_true_iff]

end Cert.KernelIdeal.Hand

end
-- ==== Proof.Data.lean ====
module

public import proofs.«01_k».proof.Proof.Cfg
public import Idealize.ShloMosaic.Lib.Pipeline.Quiescent
public import Idealize.ShloMosaic.Lib.Pipeline.TableIdle
public import Idealize.ShloMosaic.Lib.Claim
public import Idealize.ShloMosaic.Adequacy
public import Idealize.ShloMosaic.Init

@[expose] public section

set_option maxRecDepth 16384
set_option Elab.async false

noncomputable section

/-! # The launch: every grid point, and the program from its first host operation to the end

Between two grid points the scratch buffers hold the rounded weights of the last point's expert, if that
point computed a block; this is what lets a further block of the same expert use them as they are. -/

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The assertions of the launch. -/
local notation "𝕄" => MT nD τ sig Unit (Elt F) ℕ (UR sig nD τ) ℕ

variable (x : IVec S32 32) (h : Some1 x)

/-- The tables as the launch finds them. -/
def adm : (pcfg0 (F := F)).Adm := ⟨pf x, ok_pf x h⟩
abbrev cfgA : Pipeline.Cfg sig Λ₀ := cfg0 (F := F) (adm x h)

abbrev crd (t : Fin (cfgA (F := F) x h).N) : grid0.Coords := (cfgA (F := F) x h).grid.coords t

theorem crd_val (t : Fin (cfgA (F := F) x h).N) : (crd x h t 0).val = t.val := by
  have e : ∀ t : Fin grid0.N, (grid0.coords t 0).val = t.val := by decide +kernel
  exact e t

abbrev ms0 (t : Fin (cfgA (F := F) x h).N) : Memref sig .tc .vmem S4096x128 .f32 := spec0_0.stage ((cfgA (F := F) x h).slots t (0 : Fin 6))
abbrev hs0 (t : Fin (cfgA (F := F) x h).N) : (ms0 x h t).IsWhole := hstage0_0 (((cfgA (F := F) x h).slots t (0 : Fin 6)).cast nbuf0_0)
abbrev ms1 (t : Fin (cfgA (F := F) x h).N) : Memref sig .tc .vmem S1x1x1024x2048 .f32 := spec0_1.stage ((cfgA (F := F) x h).slots t (1 : Fin 6))
abbrev hs1 (t : Fin (cfgA (F := F) x h).N) : (ms1 x h t).IsWhole := hstage0_1 (((cfgA (F := F) x h).slots t (1 : Fin 6)).cast nbuf0_1)
abbrev ms2 (t : Fin (cfgA (F := F) x h).N) : Memref sig .tc .vmem S1x1x1x2048 .f32 := spec0_2.stage ((cfgA (F := F) x h).slots t (2 : Fin 6))
abbrev hs2 (t : Fin (cfgA (F := F) x h).N) : (ms2 x h t).IsWhole := hstage0_2 (((cfgA (F := F) x h).slots t (2 : Fin 6)).cast nbuf0_2)
abbrev ms3 (t : Fin (cfgA (F := F) x h).N) : Memref sig .tc .vmem S1x1x1024x1024 .f32 := spec0_3.stage ((cfgA (F := F) x h).slots t (3 : Fin 6))
abbrev hs3 (t : Fin (cfgA (F := F) x h).N) : (ms3 x h t).IsWhole := hstage0_3 (((cfgA (F := F) x h).slots t (3 : Fin 6)).cast nbuf0_3)
abbrev ms4 (t : Fin (cfgA (F := F) x h).N) : Memref sig .tc .vmem S1x1x1x1024 .f32 := spec0_4.stage ((cfgA (F := F) x h).slots t (4 : Fin 6))
abbrev hs4 (t : Fin (cfgA (F := F) x h).N) : (ms4 x h t).IsWhole := hstage0_4 (((cfgA (F := F) x h).slots t (4 : Fin 6)).cast nbuf0_4)
abbrev ms5 (t : Fin (cfgA (F := F) x h).N) : Memref sig .tc .vmem S4096x128 .f32 := spec0_5.stage ((cfgA (F := F) x h).slots t (5 : Fin 6))
abbrev hs5 (t : Fin (cfgA (F := F) x h).N) : (ms5 x h t).IsWhole := hstage0_5 (((cfgA (F := F) x h).slots t (5 : Fin 6)).cast nbuf0_5)

variable (m : (ℓ : Loc nD τ sig) → Buf (Elt F) ℓ) (c : Dev nD)

/-- What each buffer holds when the launch begins. -/
def V (c : Dev nD) (b : Ref sig .tc) : Buf (Elt F) ((c.tc : Thread nD τ).loc b) :=
  StableHlo.after opss.flatten (fun b => m (c, b)) b

/-- The block of window `w` at point `t`, read off its array. -/
def iblk (w : Fin 6) (t : Fin (cfgA (F := F) x h).N) :
    (((cfgA (F := F) x h).win w).xblock (crd x h t)).Idx → Elt F ((cfgA (F := F) x h).win w).elt :=
  (((cfgA (F := F) x h).win w).blk t).view.read (Elt F) (V m c (Pipeline.arrRef spec0 w))

/-- The experts' number of point `t`, below 32. -/
def eN (n : ℕ) : Fin 32 := ⟨(expN x n).toNat, expN_lt x n⟩

/-- The rows of point `t`. -/
theorem iblk0 (t : Fin (cfgA (F := F) x h).N) : iblk x h m c (0 : Fin 6) t
    = fun p : S4096x128.Idx => V m c main_arg1 (ix2 (n0 := 720896) (n1 := 128)
        ⟨4096 * min t.val (nblk x - 1) + (p 0).val, by have h0 : t.val < 176 := t.isLt; have h1 : (p 0).val < 4096 := (p 0).isLt; omega⟩ (p 1)) := by
  funext p
  refine congrArg (V m c main_arg1) (funext fun a => Fin.ext ?_)
  have e := tr0_eq (F := F) x (crd x h t) h
  rw [crd_val] at e
  match a with
  | ⟨0, _⟩ =>
    show cc0_transform_0 (F := F) inb_S1_S1_0 numel1_S1 (pf x) (crd x h t) 0 * 4096 + 1 * (p 0).val = 4096 * min t.val (nblk x - 1) + (p 0).val
    rw [e]
    show min t.val (nblk x - 1) * 4096 + _ = _
    omega
  | ⟨1, _⟩ =>
    show cc0_transform_0 (F := F) inb_S1_S1_0 numel1_S1 (pf x) (crd x h t) 1 * 128 + 1 * (p 1).val = (p 1).val
    rw [e]
    show 0 * 128 + _ = _
    omega

/-- The first-layer weights of point `t`. -/
theorem iblk1 (t : Fin (cfgA (F := F) x h).N) : iblk x h m c (1 : Fin 6) t
    = fun p : S1x1x1024x2048.Idx => V m c main_arg2 (ix4 (n0 := 4) 0 (eN x t.val) (p 2) (p 3)) := by
  funext p
  refine congrArg (V m c main_arg2) (funext fun a => Fin.ext ?_)
  have e := tr1_eq (F := F) x (crd x h t)
  rw [crd_val] at e
  match a with
  | ⟨0, _⟩ =>
    show cc0_transform_1 (F := F) k0_off1_inb numel1_S1 (pf x) (crd x h t) 0 * 1 + 1 * (p 0).val = 0
    rw [e]
    have h0 : (p 0).val < 1 := (p 0).isLt
    show 0 * 1 + 1 * (p 0).val = 0
    omega
  | ⟨1, _⟩ =>
    show cc0_transform_1 (F := F) k0_off1_inb numel1_S1 (pf x) (crd x h t) 1 * 1 + 1 * (p 1).val = (expN x t.val).toNat
    rw [e]
    have h0 : (p 1).val < 1 := (p 1).isLt
    show (expN x t.val).toNat * 1 + 1 * (p 1).val = _
    omega
  | ⟨2, _⟩ =>
    show cc0_transform_1 (F := F) k0_off1_inb numel1_S1 (pf x) (crd x h t) 2 * 1024 + 1 * (p 2).val = (p 2).val
    rw [e]
    show 0 * 1024 + _ = _
    omega
  | ⟨3, _⟩ =>
    show cc0_transform_1 (F := F) k0_off1_inb numel1_S1 (pf x) (crd x h t) 3 * 2048 + 1 * (p 3).val = (p 3).val
    rw [e]
    show 0 * 2048 + _ = _
    omega

/-- The first-layer bias of point `t`. -/
theorem iblk2 (t : Fin (cfgA (F := F) x h).N) : iblk x h m c (2 : Fin 6) t
    = fun p : S1x1x1x2048.Idx => V m c main_v26 (ix4 (n0 := 4) 0 (eN x t.val) (p 2) (p 3)) := by
  funext p
  refine congrArg (V m c main_v26) (funext fun a => Fin.ext ?_)
  have e := tr2_eq (F := F) x (crd x h t)
  rw [crd_val] at e
  match a with
  | ⟨0, _⟩ =>
    show cc0_transform_2 (F := F) k0_off1_inb numel1_S1 (pf x) (crd x h t) 0 * 1 + 1 * (p 0).val = 0
    rw [e]
    have h0 : (p 0).val < 1 := (p 0).isLt
    show 0 * 1 + 1 * (p 0).val = 0
    omega
  | ⟨1, _⟩ =>
    show cc0_transform_2 (F := F) k0_off1_inb numel1_S1 (pf x) (crd x h t) 1 * 1 + 1 * (p 1).val = (expN x t.val).toNat
    rw [e]
    have h0 : (p 1).val < 1 := (p 1).isLt
    show (expN x t.val).toNat * 1 + 1 * (p 1).val = _
    omega
  | ⟨2, _⟩ =>
    show cc0_transform_2 (F := F) k0_off1_inb numel1_S1 (pf x) (crd x h t) 2 * 1 + 1 * (p 2).val = (p 2).val
    rw [e]
    show 0 * 1 + _ = _
    omega
  | ⟨3, _⟩ =>
    show cc0_transform_2 (F := F) k0_off1_inb numel1_S1 (pf x) (crd x h t) 3 * 2048 + 1 * (p 3).val = (p 3).val
    rw [e]
    show 0 * 2048 + _ = _
    omega

/-- The second-layer weights of point `t`. -/
theorem iblk3 (t : Fin (cfgA (F := F) x h).N) : iblk x h m c (3 : Fin 6) t
    = fun p : S1x1x1024x1024.Idx => V m c main_arg4 (ix4 (n0 := 4) 0 (eN x t.val) (p 2) (p 3)) := by
  funext p
  refine congrArg (V m c main_arg4) (funext fun a => Fin.ext ?_)
  have e := tr3_eq (F := F) x (crd x h t)
  rw [crd_val] at e
  match a with
  | ⟨0, _⟩ =>
    show cc0_transform_3 (F := F) k0_off1_inb numel1_S1 (pf x) (crd x h t) 0 * 1 + 1 * (p 0).val = 0
    rw [e]
    have h0 : (p 0).val < 1 := (p 0).isLt
    show 0 * 1 + 1 * (p 0).val = 0
    omega
  | ⟨1, _⟩ =>
    show cc0_transform_3 (F := F) k0_off1_inb numel1_S1 (pf x) (crd x h t) 1 * 1 + 1 * (p 1).val = (expN x t.val).toNat
    rw [e]
    have h0 : (p 1).val < 1 := (p 1).isLt
    show (expN x t.val).toNat * 1 + 1 * (p 1).val = _
    omega
  | ⟨2, _⟩ =>
    show cc0_transform_3 (F := F) k0_off1_inb numel1_S1 (pf x) (crd x h t) 2 * 1024 + 1 * (p 2).val = (p 2).val
    rw [e]
    show 0 * 1024 + _ = _
    omega
  | ⟨3, _⟩ =>
    show cc0_transform_3 (F := F) k0_off1_inb numel1_S1 (pf x) (crd x h t) 3 * 1024 + 1 * (p 3).val = (p 3).val
    rw [e]
    show 0 * 1024 + _ = _
    omega

/-- The second-layer bias of point `t`. -/
theorem iblk4 (t : Fin (cfgA (F := F) x h).N) : iblk x h m c (4 : Fin 6) t
    = fun p : S1x1x1x1024.Idx => V m c main_v27 (ix4 (n0 := 4) 0 (eN x t.val) (p 2) (p 3)) := by
  funext p
  refine congrArg (V m c main_v27) (funext fun a => Fin.ext ?_)
  have e := tr4_eq (F := F) x (crd x h t)
  rw [crd_val] at e
  match a with
  | ⟨0, _⟩ =>
    show cc0_transform_4 (F := F) k0_off1_inb numel1_S1 (pf x) (crd x h t) 0 * 1 + 1 * (p 0).val = 0
    rw [e]
    have h0 : (p 0).val < 1 := (p 0).isLt
    show 0 * 1 + 1 * (p 0).val = 0
    omega
  | ⟨1, _⟩ =>
    show cc0_transform_4 (F := F) k0_off1_inb numel1_S1 (pf x) (crd x h t) 1 * 1 + 1 * (p 1).val = (expN x t.val).toNat
    rw [e]
    have h0 : (p 1).val < 1 := (p 1).isLt
    show (expN x t.val).toNat * 1 + 1 * (p 1).val = _
    omega
  | ⟨2, _⟩ =>
    show cc0_transform_4 (F := F) k0_off1_inb numel1_S1 (pf x) (crd x h t) 2 * 1 + 1 * (p 2).val = (p 2).val
    rw [e]
    show 0 * 1 + _ = _
    omega
  | ⟨3, _⟩ =>
    show cc0_transform_4 (F := F) k0_off1_inb numel1_S1 (pf x) (crd x h t) 3 * 1024 + 1 * (p 3).val = (p 3).val
    rw [e]
    show 0 * 1024 + _ = _
    omega

/-- The rounded first-layer weights of point `t`. -/
def wguT (t : Fin (cfgA (F := F) x h).N) : S1024x2048.Idx → Elt F .bf16 := wguv (iblk x h m c (1 : Fin 6) t)
/-- The rounded second-layer weights of point `t`. -/
def wdnT (t : Fin (cfgA (F := F) x h).N) : S1024x1024.Idx → Elt F .bf16 := wdnv (iblk x h m c (3 : Fin 6) t)

theorem wguT_congr (s t : Fin (cfgA (F := F) x h).N) (e : expN x s.val = expN x t.val) : wguT x h m c s = wguT x h m c t := by
  unfold wguT
  rw [iblk1, iblk1, show eN x s.val = eN x t.val from Fin.ext (show (expN x s.val).toNat = (expN x t.val).toNat by rw [e])]

theorem wdnT_congr (s t : Fin (cfgA (F := F) x h).N) (e : expN x s.val = expN x t.val) : wdnT x h m c s = wdnT x h m c t := by
  unfold wdnT
  rw [iblk3, iblk3, show eN x s.val = eN x t.val from Fin.ext (show (expN x s.val).toNat = (expN x t.val).toNat by rw [e])]

/-- What point `t` stores: its block's result, or zeros past the last block in use. -/
def outAt (t : Fin (cfgA (F := F) x h).N) : S4096x128.Idx → Elt F .f32 :=
  if t.val < nblk x then
    outv (yv (wguT x h m c t) (wdnT x h m c t) (iblk x h m c (0 : Fin 6) t) (iblk x h m c (2 : Fin 6) t) (iblk x h m c (4 : Fin 6) t))
  else k0_pay1 (F := F)

/-- What the weight buffers hold before position `n`: the rounded weights of the point before, if it computed a block. -/
def Held (n : ℕ) (a0 : Buf (Elt F) ((c.tc : Thread nD τ).loc cc0_scratch0)) (a1 : Buf (Elt F) ((c.tc : Thread nD τ).loc cc0_scratch1)) : Prop :=
  ∀ s : Fin (cfgA (F := F) x h).N, s.val + 1 = n → s.val < nblk x →
    @Eq (S1024x2048.Idx → Elt F .bf16) a0 (wguT x h m c s) ∧ @Eq (S1024x1024.Idx → Elt F .bf16) a1 (wdnT x h m c s)

/-- The invariant before position `n`. -/
def Phi (n : ℕ) : sProp 𝕄 :=
  iprop((∃ a0 a1, ⌜Held x h m c n a0 a1⌝ ∗ (wguM.view.loc (c : Thread nD τ) ↦{fullShare} a0) ∗ (wdnM.view.loc (c : Thread nD τ) ↦{fullShare} a1))
    ∗ (∃ a2, actM.view.loc (c : Thread nD τ) ↦{fullShare} a2)
    ∗ (tabE.view.loc (c : Thread nD τ) ↦{fullShare.right} (tE x : S176.Idx → Elt F .i32))
    ∗ (tabN.view.loc (c : Thread nD τ) ↦{fullShare.right} (tN x : S1.Idx → Elt F .i32))
    ∗ ∃ r, prngReg c r)

/-- The data of the pipeline on device `c`. -/
def dats (_ : Fin 1) (c : Dev nD) : Dat τ (Elt F) Unit ℕ (UR sig nD τ) ℕ (cfgA (F := F) x h) c where
  A w := V m c (Pipeline.arrRef spec0 w)
  after w t := match w with
    | ⟨0, _⟩ => iblk x h m c (0 : Fin 6) t
    | ⟨1, _⟩ => iblk x h m c (1 : Fin 6) t
    | ⟨2, _⟩ => iblk x h m c (2 : Fin 6) t
    | ⟨3, _⟩ => iblk x h m c (3 : Fin 6) t
    | ⟨4, _⟩ => iblk x h m c (4 : Fin 6) t
    | ⟨5, _⟩ => outAt x h m c t
  Φ t := Phi x h m c t.val
  q _ := fullShare
  owed _ := 0

theorem after0 (t : Fin (cfgA (F := F) x h).N) : (dats x h m 0 c).after (0 : Fin 6) t = iblk x h m c (0 : Fin 6) t := rfl
theorem after1 (t : Fin (cfgA (F := F) x h).N) : (dats x h m 0 c).after (1 : Fin 6) t = iblk x h m c (1 : Fin 6) t := rfl
theorem after2 (t : Fin (cfgA (F := F) x h).N) : (dats x h m 0 c).after (2 : Fin 6) t = iblk x h m c (2 : Fin 6) t := rfl
theorem after3 (t : Fin (cfgA (F := F) x h).N) : (dats x h m 0 c).after (3 : Fin 6) t = iblk x h m c (3 : Fin 6) t := rfl
theorem after4 (t : Fin (cfgA (F := F) x h).N) : (dats x h m 0 c).after (4 : Fin 6) t = iblk x h m c (4 : Fin 6) t := rfl
theorem after5 (t : Fin (cfgA (F := F) x h).N) : (dats x h m 0 c).after (5 : Fin 6) t = outAt x h m c t := rfl

theorem before0 (t : Fin (cfgA (F := F) x h).N) (d) : (dats x h m 0 c).before (0 : Fin 6) t d = iblk x h m c (0 : Fin 6) t :=
  ((dats x h m 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (t : Fin (cfgA (F := F) x h).N) (d) : (dats x h m 0 c).before (1 : Fin 6) t d = iblk x h m c (1 : Fin 6) t :=
  ((dats x h m 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (t : Fin (cfgA (F := F) x h).N) (d) : (dats x h m 0 c).before (2 : Fin 6) t d = iblk x h m c (2 : Fin 6) t :=
  ((dats x h m 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (t : Fin (cfgA (F := F) x h).N) (d) : (dats x h m 0 c).before (3 : Fin 6) t d = iblk x h m c (3 : Fin 6) t :=
  ((dats x h m 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (t : Fin (cfgA (F := F) x h).N) (d) : (dats x h m 0 c).before (4 : Fin 6) t d = iblk x h m c (4 : Fin 6) t :=
  ((dats x h m 0 c).before_in_eq_fetched (4 : Fin 6) rfl (fun _ => rfl) (fun _ _ _ => rfl) (fun t => by rw [after4]; unfold Dat.blockOf iblk; rfl) t d).trans
    (by unfold Dat.fetched Dat.blockOf iblk; rfl)

/-- Every point stores its block of the result. -/
theorem idle5 (i : grid0.Coords) : (cfgA (F := F) x h).idle (5 : Fin 6) i = false := by
  show (!(k0_cond1 i (BitVec.ofNat 32 (nblk x)) == 1#1) && !(k0_cond3 i (BitVec.ofNat 32 (nblk x)) == 1#1)) = false
  by_cases hc : (i 0).val < nblk x
  · rw [(cond3_iff x i h).mpr hc]; simp
  · rw [(cond1_iff x i h).mpr (by omega)]; simp

end Cert.KernelIdeal.Hand

end
-- ==== Proof.Run.lean ====
module

public import proofs.«01_k».proof.Proof.Data

@[expose] public section

set_option maxRecDepth 16384
set_option Elab.async false

noncomputable section

/-! # Every grid point, and the program from its first host operation to the end -/

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The assertions of the launch. -/
local notation "𝕄" => MT nD τ sig Unit (Elt F) ℕ (UR sig nD τ) ℕ

variable (x : IVec S32 32) (h : Some1 x)

variable (m : (ℓ : Loc nD τ sig) → Buf (Elt F) ℓ) (ρ : Dev nD → PrngReg) (c : Dev nD)

/-- The body at point `t`, as the pipeline calls it. -/
abbrev bodyAt (t : Fin (cfgA (F := F) x h).N) : Prog (TpuEff nD τ sig (Elt F) Λ₀ .tc) PUnit :=
  cc0_moe_experts (crd x h t) tabE (Memref.isWhole_whole _) tabN (Memref.isWhole_whole _)
    (ms0 x h t) (hs0 x h t) (ms1 x h t) (hs1 x h t) (ms2 x h t) (hs2 x h t) (ms3 x h t) (hs3 x h t) (ms4 x h t) (hs4 x h t)
    (ms5 x h t) (hs5 x h t) wguM (Memref.isWhole_whole _) wdnM (Memref.isWhole_whole _) actM (Memref.isWhole_whole _)

set_option maxHeartbeats 4000000 in
/-- The body's obligation at point `t`, along the path the two tables select. -/
theorem sound_body (t : Fin (cfgA (F := F) x h).N) :
    iprop((dats x h m 0 c).Φ t.castSucc ∗ (dats x h m 0 c).owesAt () t.castSucc
        ∗ (∃ d, owns (c : Thread nD τ) (ms0 x h t) fullShare ((dats x h m 0 c).before (0 : Fin 6) t d))
        ∗ (∃ d, owns (c : Thread nD τ) (ms1 x h t) fullShare ((dats x h m 0 c).before (1 : Fin 6) t d))
        ∗ (∃ d, owns (c : Thread nD τ) (ms2 x h t) fullShare ((dats x h m 0 c).before (2 : Fin 6) t d))
        ∗ (∃ d, owns (c : Thread nD τ) (ms3 x h t) fullShare ((dats x h m 0 c).before (3 : Fin 6) t d))
        ∗ (∃ d, owns (c : Thread nD τ) (ms4 x h t) fullShare ((dats x h m 0 c).before (4 : Fin 6) t d))
        ∗ (∃ d, owns (c : Thread nD τ) (ms5 x h t) fullShare ((dats x h m 0 c).before (5 : Fin 6) t d)))
      ⊢ wp frame (wpE (defs₀ (F := F)) Variants.none c none) Set.univ (bodyAt x h t) fun _ =>
          iprop((dats x h m 0 c).Φ t.succ ∗ (dats x h m 0 c).owesAt () t.succ
            ∗ bigSep Finset.univ fun w : Fin (cfgA (F := F) x h).W =>
                match (cfgA (F := F) x h).idle w ((cfgA (F := F) x h).grid.coords t) with
                | true =>
                  match ((cfgA (F := F) x h).win w).flush t with
                  | false => iprop(∃ d, owns (c : Thread nD τ) (((cfgA (F := F) x h).win w).stage ((cfgA (F := F) x h).slots t w)) fullShare ((dats x h m 0 c).before w t d))
                  | true => owns (c : Thread nD τ) (((cfgA (F := F) x h).win w).stage ((cfgA (F := F) x h).slots t w)) fullShare ((dats x h m 0 c).after w t)
                | false => owns (c : Thread nD τ) (((cfgA (F := F) x h).win w).stage ((cfgA (F := F) x h).slots t w)) fullShare ((dats x h m 0 c).after w t)) := by
  rw [bigSep_W0]
  have i5 := idle5 (F := F) x h ((cfgA (F := F) x h).grid.coords t)
  have hv : (crd x h t 0).val = t.val := crd_val x h t
  have k1 := cond1_iff x (crd x h t) h
  have k3 := cond3_iff x (crd x h t) h
  have kf := fresh_iff (F := F) x (crd x h t) h
  rw [hv] at k1 k3 kf
  rewrite [i5]
  simp only [before0, before1, before2, before3, before4, after0, after1, after2, after3, after4, after5]
  rewrite [show (dats x h m 0 c).Φ t.succ = Phi x h m c (t.val + 1) from rfl, show (dats x h m 0 c).Φ t.castSucc = Phi x h m c t.val from rfl,
    show (dats x h m 0 c).owesAt () t.succ = (dats x h m 0 c).owesAt () t.castSucc from rfl]
  unfold Phi
  iintro ⟨⟨⟨%a0, %a1, %ha, HS0, HS1⟩, ⟨%a2, HS2⟩, HT0, HT1, HP⟩, Ho, ⟨%d0, H0⟩, ⟨%d1, H1⟩, ⟨%d2, H2⟩, ⟨%d3, H3⟩, ⟨%d4, H4⟩, ⟨%d5, H5⟩⟩
  by_cases q : t.val < nblk x
  · have h1 : ¬(k0_cond1 (crd x h t) (wordN (F := F) (tN x)) = 1#1) := fun e => by have := k1.mp e; omega
    have h3 : k0_cond3 (crd x h t) (wordN (F := F) (tN x)) = 1#1 := k3.mpr q
    by_cases q' : t.val = 0 ∨ expN x t.val ≠ expN x (t.val - 1)
    · have hc : wordFresh (F := F) (crd x h t) (tE x) (tN x) = 1#1 := kf.mpr ⟨q, q'⟩
      iapply ((runFresh c (crd x h t) (ms0 x h t) (hs0 x h t) (ms1 x h t) (hs1 x h t) (ms2 x h t) (hs2 x h t) (ms3 x h t) (hs3 x h t) (ms4 x h t) (hs4 x h t) (ms5 x h t) (hs5 x h t) (tE x) (tN x)
      (iblk x h m c (0 : Fin 6) t) (iblk x h m c (1 : Fin 6) t) (iblk x h m c (2 : Fin 6) t) (iblk x h m c (3 : Fin 6) t) (iblk x h m c (4 : Fin 6) t) h1 hc h3).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      iintro ⟨H0, H1, H2, H3, H4, HT0, HT1, ⟨%e5, H5⟩, HS0, HS1, HS2⟩
      isplitl [HS0 HS1 HS2 HT0 HT1 HP]
      · isplitl [HS0 HS1]
        · iexists _; iexists _; isplitr; swap
          · isplitl [HS0]; · iexact HS0
            iexact HS1
          · ipureintro
            intro s hs hs'
            obtain rfl : s = t := Fin.ext (by omega)
            exact ⟨runFresh_wgu .., runFresh_wdn ..⟩
        isplitl [HS2]; · iexists _; iexact HS2
        isplitl [HT0]; · iexact HT0
        isplitl [HT1]; · iexact HT1
        iexact HP
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro
        rw [runFresh_out]
        unfold outAt
        rw [if_pos q]
        exact outPieces_read _ _ _
    · have hc : ¬(wordFresh (F := F) (crd x h t) (tE x) (tN x) = 1#1) := fun e => q' (kf.mp e).2
      have q0 : t.val ≠ 0 := fun e => q' (.inl e)
      have qe : expN x (t.val - 1) = expN x t.val := by
        by_contra e
        exact q' (.inr fun e' => e e'.symm)
      have hw : @Eq (S1024x2048.Idx → Elt F .bf16) a0 (wguT x h m c t) ∧ @Eq (S1024x1024.Idx → Elt F .bf16) a1 (wdnT x h m c t) := by
        have ht := t.isLt
        have e := ha ⟨t.val - 1, by omega⟩ (by show t.val - 1 + 1 = t.val; omega) (by show t.val - 1 < nblk x; omega)
        exact ⟨e.1.trans (wguT_congr x h m c _ t qe), e.2.trans (wdnT_congr x h m c _ t qe)⟩
      iapply ((runMore c (crd x h t) (ms0 x h t) (hs0 x h t) (ms1 x h t) (hs1 x h t) (ms2 x h t) (hs2 x h t) (ms3 x h t) (hs3 x h t) (ms4 x h t) (hs4 x h t) (ms5 x h t) (hs5 x h t) (tE x) (tN x)
      (iblk x h m c (0 : Fin 6) t) (iblk x h m c (1 : Fin 6) t) (iblk x h m c (2 : Fin 6) t) (iblk x h m c (3 : Fin 6) t) (iblk x h m c (4 : Fin 6) t) a0 a1 h1 hc h3).2.2.2.2 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      isplitl [HS2]; · iexact HS2
      iintro ⟨H0, H1, H2, H3, H4, HT0, HT1, ⟨%e5, H5⟩, HS0, HS1, HS2⟩
      isplitl [HS0 HS1 HS2 HT0 HT1 HP]
      · isplitl [HS0 HS1]
        · iexists _; iexists _; isplitr; swap
          · isplitl [HS0]; · iexact HS0
            iexact HS1
          · ipureintro
            intro s hs hs'
            obtain rfl : s = t := Fin.ext (by omega)
            exact hw
        isplitl [HS2]; · iexists _; iexact HS2
        isplitl [HT0]; · iexact HT0
        isplitl [HT1]; · iexact HT1
        iexact HP
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro
        rw [runMore_out]
        unfold outAt
        rw [if_pos q, ← hw.1, ← hw.2]
        exact outPieces_read _ _ _
  · have h1 : k0_cond1 (crd x h t) (wordN (F := F) (tN x)) = 1#1 := k1.mpr (by omega)
    have h3 : ¬(k0_cond3 (crd x h t) (wordN (F := F) (tN x)) = 1#1) := fun e => q (k3.mp e)
    have hc : ¬(wordFresh (F := F) (crd x h t) (tE x) (tN x) = 1#1) := fun e => q (kf.mp e).1
    iapply ((runPast c (crd x h t) (ms0 x h t) (hs0 x h t) (ms1 x h t) (hs1 x h t) (ms2 x h t) (hs2 x h t) (ms3 x h t) (hs3 x h t) (ms4 x h t) (hs4 x h t) (ms5 x h t) (hs5 x h t) (tE x) (tN x)
      (iblk x h m c (0 : Fin 6) t) (iblk x h m c (1 : Fin 6) t) (iblk x h m c (2 : Fin 6) t) (iblk x h m c (3 : Fin 6) t) (iblk x h m c (4 : Fin 6) t) a0 a1 a2 h1 hc h3).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS0]; · iexact HS0
    isplitl [HS1]; · iexact HS1
    isplitl [HS2]; · iexact HS2
    iintro ⟨H0, H1, H2, H3, H4, HT0, HT1, ⟨%e5, H5⟩, HS0, HS1, HS2⟩
    isplitl [HS0 HS1 HS2 HT0 HT1 HP]
    · isplitl [HS0 HS1]
      · iexists _; iexists _; isplitr; swap
        · isplitl [HS0]; · iexact HS0
          iexact HS1
        · ipureintro
          intro s hs hs'
          obtain rfl : s = t := Fin.ext (by omega)
          exact absurd hs' q
      isplitl [HS2]; · iexists _; iexact HS2
      isplitl [HT0]; · iexact HT0
      isplitl [HT1]; · iexact HT1
      iexact HP
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro
      unfold outAt
      rw [if_neg q]
      exact runPast_read ..

/-- The body's obligation, at every point. -/
theorem body_obligation : BodyObligation (dats x h m 0 c) (defs₀ (F := F)) Variants.none () Set.univ := fun t => by
  rw [bigSep_W0]
  exact sound_body x h m c t

theorem share_eq (w : Fin (cfgA (F := F) x h).W) : (dats x h m 0 c).share w = fullShare := by
  unfold Dat.share; split <;> rfl

/-- The tables as the launch hands them to the region, one by one. -/
theorem prefHeld_eq (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v25) ↦{q 0} v 0) ∗ (((c : Thread nD τ).loc main_v9) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the scratch buffers and the tables. -/
theorem phi_intro : iprop(Pipeline.ΦA spec0 c ∗ Pipeline.ΦT pre0 (adm (F := F) x h).1 c) ⊢ (dats x h m 0 c).Φ 0 := by
  rw [show (dats x h m 0 c).Φ 0 = Phi x h m c 0 from rfl]
  unfold Pipeline.ΦA Pipeline.ΦT
  rw [prefHeld_eq, scopedRest0_eq]
  unfold Phi
  iintro ⟨⟨⟨⟨%a0, HS0⟩, ⟨%a1, HS1⟩, ⟨%a2, HS2⟩⟩, HP⟩, HT0, HT1⟩
  isplitl [HS0 HS1]
  · iexists a0; iexists a1; isplitr; swap
    · isplitl [HS0]; · iexact HS0
      iexact HS1
    · ipureintro; intro s hs; exact absurd hs (Nat.succ_ne_zero _)
  isplitl [HS2]; · iexists a2; iexact HS2
  isplitl [HT0]; · iexact HT0
  isplitl [HT1]; · iexact HT1
  iexact HP

/-- After the last point the scratch buffers are given back. -/
theorem phi_exit : (dats x h m 0 c).Φ (Fin.last (cfgA (F := F) x h).N) ⊢ Pipeline.ΦA spec0 c := by
  rw [show (dats x h m 0 c).Φ (Fin.last (cfgA (F := F) x h).N) = Phi x h m c (cfgA (F := F) x h).N from rfl]
  unfold Pipeline.ΦA
  rw [scopedRest0_eq]
  unfold Phi
  iintro ⟨⟨%a0, %a1, -, HS0, HS1⟩, ⟨%a2, HS2⟩, -, -, HP⟩
  isplitr [HP]
  · isplitl [HS0]; · iexists a0; iexact HS0
    isplitl [HS1]; · iexists a1; iexact HS1
    iexists a2; iexact HS2
  iexact HP

theorem hsub : (opss (F := F)).Forall fun ops => ops.Forall fun op => op.bufs ⊆ StableHlo.tcRefs τ sig := by
  simp only [opss, List.forall_cons, List.Forall, and_true]
  exact ⟨hostOps0_sub, hostOps0_1_sub, hostOps0_2_sub, hostOps0_3_sub, hostOps0_4_sub, hostOps0_5_sub, hostOps0_6_sub⟩

theorem hfresh : (opss (F := F)).Forall fun ops => ops.Forall fun op => op.fresh = ∅ := by
  simp only [opss, List.forall_cons, List.Forall, and_true]
  repeat' constructor

set_option backward.isDefEq.respectTransparency.types false in
set_option maxHeartbeats 4000000 in
/-- Every weakly fair execution terminates; at the end the launch's arrays hold what the pipeline computes, every
    other buffer what the host operations left in it, and every semaphore reads zero. -/
theorem run_main (hx : ∀ c : Dev nD, m ((c.tc : Thread nD τ).loc main_arg0) = x) :
    θ_run (defs (F := F)) (onTc (τ := τ) (main (F := F))) ⟨m, fun _ => 0, ρ⟩ (fun r =>
      Pipeline.FramePost (Pipeline.pin (pcfgs (F := F)) fun _ => adm x h) (dats x h m) 0 (V m) r ∧ r.2.sem = fun _ => 0) :=
  Pipeline.θ_run_frameP_track (pcfgs (F := F)) (fun _ => adm x h) (dats x h m) 0 (launch0 (F := F)) defs₀ Variants.none m ρ (main (F := F))
    (fun c => (body_obligation x h m c).loose)
    (fun c w => share_eq x h m c w)
    (fun _ _ => rfl)
    (V m)
    (Pipeline.hmainP_prefixes pcfgs 0 defs₀ Variants.none m main opss hsub hfresh main_chain)
    (fun _ _ => rfl)
    (fun c k => by
      match k with
      | ⟨0, _⟩ => exact be_at (fun b => m (c, b)) x (hx c) h
      | ⟨1, _⟩ => exact nv_at (fun b => m (c, b)) x (hx c) h)
    (fun c => phi_intro x h m c)
    (fun c => phi_exit x h m c)
    (Q' := _) (fun _ hr => hr)

end Cert.KernelIdeal.Hand

end
-- ==== Proof.Entry.lean ====
module

public import proofs.«01_k».proof.Proof.Run
public import proofs.«01_k».proof.Proof.Gen.Pre_some_rows

@[expose] public section

set_option maxRecDepth 16384

noncomputable section

/-! # What the launch's arrays hold when it begins -/

namespace Cert.KernelIdeal.Hand

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ) (c : Dev nD)

theorem V_arg0 : V m c main_arg0 = m ((c.tc : Thread nD τ).loc main_arg0) := by
  unfold V
  simp only [opss, List.flatten_cons, List.flatten_nil, List.cons_append, List.nil_append, List.append_nil]
  after_reads_at
theorem V_arg1 : V m c main_arg1 = m ((c.tc : Thread nD τ).loc main_arg1) := by
  unfold V
  simp only [opss, List.flatten_cons, List.flatten_nil, List.cons_append, List.nil_append, List.append_nil]
  after_reads_at
theorem V_arg2 : V m c main_arg2 = m ((c.tc : Thread nD τ).loc main_arg2) := by
  unfold V
  simp only [opss, List.flatten_cons, List.flatten_nil, List.cons_append, List.nil_append, List.append_nil]
  after_reads_at
theorem V_arg3 : V m c main_arg3 = m ((c.tc : Thread nD τ).loc main_arg3) := by
  unfold V
  simp only [opss, List.flatten_cons, List.flatten_nil, List.cons_append, List.nil_append, List.append_nil]
  after_reads_at
theorem V_arg4 : V m c main_arg4 = m ((c.tc : Thread nD τ).loc main_arg4) := by
  unfold V
  simp only [opss, List.flatten_cons, List.flatten_nil, List.cons_append, List.nil_append, List.append_nil]
  after_reads_at
theorem V_arg5 : V m c main_arg5 = m ((c.tc : Thread nD τ).loc main_arg5) := by
  unfold V
  simp only [opss, List.flatten_cons, List.flatten_nil, List.cons_append, List.nil_append, List.append_nil]
  after_reads_at

/-- The first-layer bias, as the launch holds it. -/
theorem V_v26 (i : Fin 4) (e : Fin 32) (j : Fin 2048) :
    V m c main_v26 (ix4 i e (0 : Fin 1) j) = m ((c.tc : Thread nD τ).loc main_arg3) (ix3 i e j) := by
  unfold V
  simp only [opss, List.flatten_cons, List.flatten_nil, List.cons_append, List.nil_append, List.append_nil]
  after_reads_at
/-- The second-layer bias, as the launch holds it. -/
theorem V_v27 (i : Fin 4) (e : Fin 32) (j : Fin 1024) :
    V m c main_v27 (ix4 i e (0 : Fin 1) j) = m ((c.tc : Thread nD τ).loc main_arg5) (ix3 i e j) := by
  unfold V
  simp only [opss, List.flatten_cons, List.flatten_nil, List.cons_append, List.nil_append, List.append_nil]
  after_reads_at

/-- The precondition: at least one block is in use. -/
theorem some1_of_pre (a0 a1 a2 a3 a4 a5) (hp : Cert.Pre_some_rows.fn (F := F) a0 a1 a2 a3 a4 a5 = fun _ => 1#1) : Some1 a0 := by
  have h0 := congrFun hp (fun a => a.elim0)
  have e : Cert.Pre_some_rows.fn (F := F) a0 a1 a2 a3 a4 a5 (fun a => a.elim0) = BitVec.ofBool ((512#32).sle (total a0)) := by
    unfold Cert.Pre_some_rows.fn Cert.Pre_some_rows.fn_floor_divide Cert.Pre_some_rows.fn_where Cert.Pre_some_rows.fn_cumsum
      Cert.Pre_some_rows.fn_cumsum_0
    show (cmpi .sge (shapeCast S_ (extractStridedSlice S1 ![31] (ends a0) _) _) (constantI S_ 32 512#32)) _ = _
    pointwise
    rfl
  rw [e] at h0
  unfold Some1
  by_contra hn
  rw [Bool.not_eq_true] at hn
  rw [hn] at h0
  exact absurd h0 (by decide)

/-- What the pipeline leaves in the result array, and the arguments as they were. -/
def Post (x : IVec S32 32) (h : Some1 x) (r : PUnit × MemSt nD τ sig (Elt F)) : Prop :=
  (∀ c : Dev nD, r.2.mem ((c.tc : Thread nD τ).loc main_v28) = (dats x h m 0 c).arrAt (5 : Fin 6) (cfgA (F := F) x h).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0

set_option maxHeartbeats 4000000 in
theorem run_post (ρ : Dev nD → PrngReg) (x : IVec S32 32) (h : Some1 x) (hx : ∀ c : Dev nD, m ((c.tc : Thread nD τ).loc main_arg0) = x) :
    θ_run (defs (F := F)) (onTc (τ := τ) (main (F := F))) ⟨m, fun _ => 0, ρ⟩ (Post m x h) :=
  (θ_run defs _ _).mono (fun r hr => by
    refine ⟨fun c => ⟨(hr.1 c).1 (5 : Fin 6), ?_, ?_, ?_, ?_, ?_, ?_⟩, hr.2⟩
    · exact ((hr.1 c).2 main_arg0 (Pipeline.mem_restRefs_of (win := spec0) main_arg0 rfl (by decide))).trans (V_arg0 m c)
    · exact (((hr.1 c).1 (0 : Fin 6)).trans ((dats x h m 0 c).arrAt_in (0 : Fin 6) rfl _)).trans (V_arg1 m c)
    · exact (((hr.1 c).1 (1 : Fin 6)).trans ((dats x h m 0 c).arrAt_in (1 : Fin 6) rfl _)).trans (V_arg2 m c)
    · exact ((hr.1 c).2 main_arg3 (Pipeline.mem_restRefs_of (win := spec0) main_arg3 rfl (by decide))).trans (V_arg3 m c)
    · exact (((hr.1 c).1 (3 : Fin 6)).trans ((dats x h m 0 c).arrAt_in (3 : Fin 6) rfl _)).trans (V_arg4 m c)
    · exact ((hr.1 c).2 main_arg5 (Pipeline.mem_restRefs_of (win := spec0) main_arg5 rfl (by decide))).trans (V_arg5 m c)) (run_main x h m ρ hx)

/-- The arguments as they were, and every semaphore at zero. -/
theorem run_args (ρ : Dev nD → PrngReg) (hp : ∀ c : Dev nD, Some1 (m ((c.tc : Thread nD τ).loc main_arg0))) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩)
    (run_post m ρ _ (hp 0) (fun c => by rw [Subsingleton.elim (α := Fin 1) c 0]))

end Cert.KernelIdeal.Hand

end
-- ==== Proof.Frames.lean ====
module

public import proofs.«01_k».proof.Defs
public import proofs.«01_k».proof.Proof.Entry
public import proofs.«01_k».proof.Proof.Gen.Kernel.Launch

@[expose] public section

set_option maxRecDepth 16384

noncomputable section

/-! # The two frames of the kernel, from its one run -/

namespace Cert.Proof

open Idealize.ShloMosaic Idealize.SL.Sem
open Idealize.ShloMosaic.TcCoe
open Cert.KernelIdeal.Hand

theorem frame_kernelIdeal : Cert.quiescent_KernelIdeal := fun m ρ hp =>
  run_args (F := Ideal) m ρ (fun c => some1_of_pre _ _ _ _ _ _ (hp c))

/-- The kernel's frame at machine floats, said of the program read over any floats. -/
def FrameBits : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD,
      (Cert.Pre_some_rows.fn (F := Bits) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))) = fun _ => 1#1) →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

theorem frameBits : FrameBits := fun m ρ hp =>
  run_args (F := Bits) m ρ (fun c => some1_of_pre _ _ _ _ _ _ (hp c))

/-- The two programs have the same text, so this is the kernel's frame. -/
theorem frame_same : FrameBits = Cert.quiescent_Kernel := by sl_kernel_rfl

theorem frame_kernel : Cert.quiescent_Kernel := frame_same ▸ frameBits

end Cert.Proof

end
-- ==== Proof.RefFrame.lean ====
module

public import proofs.«01_k».proof.Defs
public import proofs.«01_k».proof.Proof.Gen.ReferenceIdeal.Run
public import proofs.«01_k».proof.Proof.Gen.Pre_some_rows
public import Idealize.ShloMosaic.Lib.Quiescent

@[expose] public section

noncomputable section

open Idealize.ShloMosaic Idealize.SL.Sem

namespace Cert.Proof

/-- The reference ends, leaves its six arguments as they were and every counter at zero (it has none). -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end

end
-- ==== Proof.Spec.lean ====
module

public import Idealize.ShloMosaic.Lib.Pointwise

@[expose] public section

noncomputable section

/-! # The mathematics: one row through one expert's gated feed-forward -/

namespace Cert.Spec

open Idealize.ShloMosaic

/-- The clamp's limit. -/
def lim : EReal := Ideal.ofBits .f32 0x40E00000#32

/-- The clamp's lower limit. -/
def low : EReal := Ideal.ofBits .f32 0xC0E00000#32

/-- The factor in the gate's sigmoid. -/
def slope : EReal := Ideal.ofBits .f32 0x3FD9DB23#32

/-- The gated unit: the gate clamped from above times its sigmoid, times one more than the linear half clamped. -/
def gate (g l : EReal) : EReal :=
  min g lim * Ideal.div 1 (1 + Ideal.exp (-(slope * min g lim))) * (min lim (max low l) + 1)

/-- Entry `f` of a row's first product with its bias. -/
def pre (x : Fin 1024 → EReal) (w : Fin 1024 → Fin 2048 → EReal) (b : Fin 2048 → EReal) (f : Fin 2048) : EReal :=
  ∑ d, x d * w d f + b f

/-- Entry `f` of a row's hidden activations: the first 1024 entries gate the others. -/
def hid (x : Fin 1024 → EReal) (w : Fin 1024 → Fin 2048 → EReal) (b : Fin 2048 → EReal) (f : Fin 1024) : EReal :=
  gate (pre x w b ⟨f.val, by omega⟩) (pre x w b ⟨1024 + f.val, by omega⟩)

/-- Entry `j` of a row through one expert. -/
def ffn (x : Fin 1024 → EReal) (w : Fin 1024 → Fin 2048 → EReal) (b : Fin 2048 → EReal)
    (w' : Fin 1024 → Fin 1024 → EReal) (b' : Fin 1024 → EReal) (j : Fin 1024) : EReal :=
  ∑ f, hid x w b f * w' f j + b' j

end Cert.Spec

end

end
-- ==== Proof.KVal.lean ====
module

public import proofs.«01_k».proof.Proof.Block
public import proofs.«01_k».proof.Proof.Spec

@[expose] public section

set_option maxRecDepth 16384

noncomputable section

/-! # What one grid point leaves, in exact arithmetic: the feed-forward of each of the block's rows -/

namespace Cert.KernelIdeal.Hand

open Cert.KernelIdeal Cert.KernelIdeal.Gen
open Idealize.ShloMosaic Cert.Spec

/-- Row `r` of a block: eight lines of 128. -/
def rowOf (x0 : S4096x128.Idx → Elt Ideal .f32) (r : Fin 512) (d : Fin 1024) : EReal :=
  x0 (ix2 ⟨8 * r.val + d.val / 128, by omega⟩ ⟨d.val % 128, by omega⟩)

theorem rowsv_at (x0 : S4096x128.Idx → Elt Ideal .f32) (r : Fin 512) (d : Fin 1024) :
    (rowsv x0 (ix2 r d) : EReal) = rowOf x0 r d := by
  have key : ∀ (k : ℕ) (j : ℕ) (hk : 8 * r.val + k < 4096) (hj : j < 128), d.val = 128 * k + j →
      (x0 (ix2 ⟨8 * r.val + k, hk⟩ ⟨j, hj⟩) : EReal) = rowOf x0 r d := by
    intro k j hk hj h
    unfold rowOf
    have h1 : d.val / 128 = k := by omega
    have h2 : d.val % 128 = j := by omega
    simp only [h1, h2]
  unfold rowsv
  pointwise [k0_pay24, slab]
  repeat' split
  all_goals first
    | exact key 0 _ _ _ (by omega)
    | exact key 1 _ _ _ (by omega)
    | exact key 2 _ _ _ (by omega)
    | exact key 3 _ _ _ (by omega)
    | exact key 4 _ _ _ (by omega)
    | exact key 5 _ _ _ (by omega)
    | exact key 6 _ _ _ (by omega)
    | exact key 7 _ _ _ (by omega)

/-- 512 columns of the first product, clamped from above. -/
theorem pay29_at (v28 : FVec Ideal S512x1024 .bf16) (w : Vec Ideal S1024x512 .bf16) (b : Vec Ideal S1x1x1x512 .f32)
    (r : Fin 512) (f : Fin 512) :
    (k0_pay29 v28 w b (ix2 r f) : EReal) = min (∑ x, v28 (ix2 r x) * w (ix2 x f) + b (ix4 0 0 0 f)) lim := by
  pointwise [k0_pay29]
  rfl

/-- 512 columns of the first product, clamped from below. -/
theorem pay30_at (v28 : FVec Ideal S512x1024 .bf16) (w : Vec Ideal S1024x512 .bf16) (b : Vec Ideal S1x1x1x512 .f32)
    (r : Fin 512) (f : Fin 512) :
    (k0_pay30 v28 w b (ix2 r f) : EReal) = max low (∑ x, v28 (ix2 r x) * w (ix2 x f) + b (ix4 0 0 0 f)) := by
  pointwise [k0_pay30]
  rfl

/-- The gated unit over clamped halves. -/
theorem pay32_at (a b : FVec Ideal S512x512 .f32) (r : Fin 512) (f : Fin 512) :
    (k0_pay32 a b k0_pay31 (ix2 r f) : EReal)
      = a (ix2 r f) * Ideal.div 1 (1 + Ideal.exp (-(slope * a (ix2 r f)))) * (min lim (b (ix2 r f)) + 1) := by
  pointwise [k0_pay32, k0_pay31]
  rw [zero_sub]
  rfl

/-- The second product with its bias. -/
theorem pay33_at (a : FVec Ideal S512x1024 .bf16) (w : Vec Ideal S1024x1024 .bf16) (b : Vec Ideal S1x1x1x1024 .f32)
    (r : Fin 512) (f : Fin 1024) :
    (k0_pay33 a w b (ix2 r f) : EReal) = ∑ x, a (ix2 r x) * w (ix2 x f) + b (ix4 0 0 0 f) := by
  pointwise [k0_pay33]

theorem pay1_at (j) : (k0_pay1 (F := Ideal) j : EReal) = 0 := by
  pointwise [k0_pay1]

/-- The first half's activations are computed as the second's. -/
theorem actL_eq (a0 : S1024x2048.Idx → Elt Ideal .bf16) (x0 : S4096x128.Idx → Elt Ideal .f32) (x2 : S1x1x1x2048.Idx → Elt Ideal .f32) :
    actL a0 x0 x2 = k0_pay32 (k0_pay29 (rowsv x0) (wcol a0 0) (bcol x2 0)) (k0_pay30 (rowsv x0) (wcol a0 2) (bcol x2 2)) k0_pay31 := rfl

variable (x0 : S4096x128.Idx → Elt Ideal .f32) (x1 : S1x1x1024x2048.Idx → Elt Ideal .f32) (x2 : S1x1x1x2048.Idx → Elt Ideal .f32)
  (x3 : S1x1x1024x1024.Idx → Elt Ideal .f32) (x4 : S1x1x1x1024.Idx → Elt Ideal .f32)

/-- A group of 512 columns of the first product. -/
theorem col_at (k : Fin 4) (r : Fin 512) (f : Fin 512) (j : Fin 2048) (hj : j.val = 512 * k.val + f.val) :
    (∑ x, (rowsv x0 (ix2 r x) : EReal) * wcol (wguv x1) k (ix2 x f) + bcol x2 k (ix4 0 0 0 f) : EReal)
      = pre (rowOf x0 r) (fun d f => x1 (ix4 0 0 d f)) (fun f => x2 (ix4 0 0 0 f)) j := by
  obtain ⟨j, hlt⟩ := j
  obtain rfl : j = 512 * k.val + f.val := hj
  unfold pre
  simp only [rowsv_at]
  rfl

/-- The hidden activations of a block. -/
theorem actv_at (r : Fin 512) (f : Fin 1024) :
    (actv (wguv x1) x0 x2 (ix2 r f) : EReal)
      = hid (rowOf x0 r) (fun d f => x1 (ix4 0 0 d f)) (fun f => x2 (ix4 0 0 0 f)) f := by
  unfold actv hid gate
  split
  · rename_i h
    have h : f.val < 512 := h
    rw [actL_eq]
    refine (pay32_at _ _ r ⟨f.val, h⟩).trans ?_
    rw [pay29_at, pay30_at, col_at x0 x1 x2 0 r ⟨f.val, h⟩ ⟨f.val, by omega⟩ (by simp),
      col_at x0 x1 x2 2 r ⟨f.val, h⟩ ⟨1024 + f.val, by omega⟩ (by simp)]
  · rename_i h
    have h : ¬ f.val < 512 := h
    refine (pay32_at _ _ r ⟨f.val - 512, by omega⟩).trans ?_
    rw [pay29_at, pay30_at, col_at x0 x1 x2 1 r ⟨f.val - 512, by omega⟩ ⟨f.val, by omega⟩ (by simp; omega),
      col_at x0 x1 x2 3 r ⟨f.val - 512, by omega⟩ ⟨1024 + f.val, by omega⟩ (by simp; omega)]

/-- A block's result: line `p` of 128 is a piece of row `p / 8`. -/
theorem outv_at (p : Fin 4096) (l : Fin 128) :
    (outv (yv (wguv x1) (wdnv x3) x0 x2 x4) (ix2 p l) : EReal)
      = ffn (rowOf x0 ⟨p.val / 8, by omega⟩) (fun d f => x1 (ix4 0 0 d f)) (fun f => x2 (ix4 0 0 0 f))
          (fun f j => x3 (ix4 0 0 f j)) (fun j => x4 (ix4 0 0 0 j)) ⟨128 * (p.val % 8) + l.val, by omega⟩ := by
  unfold outv yv ffn
  refine (pay33_at _ _ _ ⟨p.val / 8, by omega⟩ ⟨128 * (p.val % 8) + l.val, by omega⟩).trans ?_
  simp only [actv_at]
  rfl

end Cert.KernelIdeal.Hand

end

end
-- ==== Proof.RefTerm.lean ====
module

public import proofs.«01_k».proof.Proof.Gen.ReferenceIdeal.Run
public import Idealize.ShloMosaic.Lib.Pointwise

@[expose] public section

set_option maxRecDepth 16384

noncomputable section

/-! # The reference's term, cut into named steps -/

namespace Cert.ReferenceIdeal.Hand

open Cert.ReferenceIdeal Cert.ReferenceIdeal.Gen
open Idealize.ShloMosaic Idealize.ShloMosaic.TcCoe Idealize.SL.Sem

/-- Where each expert's rows end: the running sum of the counts rounded up to whole blocks of 512. -/
def endsR (a0 : IVec S32 32) : IVec S32 32 :=
  Host.reduceWindow IntOp.addi ![32] ![1] ![31] ![0] (muli (select (andi (cmpi .ne (signi (subi (addi a0 (broadcastInDim S32 ![] bcast_S_S32 (constantI S_ 32 512#32))) (broadcastInDim S32 ![] bcast_S_S32 (constantI S_ 32 1#32)))) (broadcastInDim S32 ![] bcast_S_S32 (signi (id (constantI S_ 32 512#32))))) (cmpi .ne (Host.remsi (subi (addi a0 (broadcastInDim S32 ![] bcast_S_S32 (constantI S_ 32 512#32))) (broadcastInDim S32 ![] bcast_S_S32 (constantI S_ 32 1#32))) (broadcastInDim S32 ![] bcast_S_S32 (id (constantI S_ 32 512#32)))) (broadcastInDim S32 ![] bcast_S_S32 (constantI S_ 32 0#32)))) (subi (Host.divsi (subi (addi a0 (broadcastInDim S32 ![] bcast_S_S32 (constantI S_ 32 512#32))) (broadcastInDim S32 ![] bcast_S_S32 (constantI S_ 32 1#32))) (broadcastInDim S32 ![] bcast_S_S32 (id (constantI S_ 32 512#32)))) (broadcastInDim S32 ![] bcast_S_S32 (constantI S_ 32 1#32))) (Host.divsi (subi (addi a0 (broadcastInDim S32 ![] bcast_S_S32 (constantI S_ 32 512#32))) (broadcastInDim S32 ![] bcast_S_S32 (constantI S_ 32 1#32))) (broadcastInDim S32 ![] bcast_S_S32 (id (constantI S_ 32 512#32))))) (broadcastInDim S32 ![] bcast_S_S32 (constantI S_ 32 512#32))) (broadcastInDim S_ ![] bcast_S_S_ (constantI S_ 32 0#32)) reduceWindows_S32_S32_w32s1p31_0 h_S_

/-- The expert of each block of 512 rows: how many experts end at or before it, at most 31. -/
def expertR (a0 : IVec S32 32) : IVec S176 32 :=
  minsi (Host.reduce IntOp.addi (extui 32 (cmpi .sle (broadcastInDim S176x32 ![0, 1] bcast_S1x32_S176x32_0_1 (broadcastInDim S1x32 ![1] bcast_S32_S1x32_1 (endsR a0))) (broadcastInDim S176x32 ![0, 1] bcast_S176x1_S176x32_0_1 (broadcastInDim S176x1 ![0] bcast_S176_S176x1_0 (muli (iotaInDim S176 32 0) (broadcastInDim S176 ![] bcast_S_S176 (constantI S_ 32 512#32)))))) natLt_1_32) (constantI S_ 32 0#32) reducesTo_S176x32_S176_d1 h_S_) (broadcastInDim S176 ![] bcast_S_S176 (constantI S_ 32 31#32))

/-- The index the weights are picked by. -/
def pickR (a0 : IVec S32 32) : IVec S176x1 32 :=
  broadcastInDim S176x1 ![0] bcast_S176_S176x1_0 (select (cmpi .slt (expertR a0) (broadcastInDim S176 ![] bcast_S_S176 (constantI S_ 32 0#32))) (addi (expertR a0) (broadcastInDim S176 ![] bcast_S_S176 (constantI S_ 32 32#32))) (expertR a0))

/-- The first product with its bias. -/
def hidR (a0 : IVec S32 32) (a1 : FVec Ideal S720896x128 .f32) (a2 : FVec Ideal S4x32x1024x2048 .f32) (a3 : FVec Ideal S4x32x2048 .f32) : FVec Ideal S176x512x2048 .f32 :=
  addf (Host.dotGeneral dot_S176x512x1024_S176x1024x2048_S176x512x2048_2_1_1_2_0_0 none (shapeCast _ a1 shapeCasts_S720896x128_S176x512x1024) (Host.gather gather_S32x1024x2048_S176x1_S176x1024x2048_12_0_n_n_0_1_110242048 (shapeCast _ (extractStridedSlice S1x32x1024x2048 ![0, 0, 0, 0] a2 slices_S4x32x1024x2048_S1x32x1024x2048_0_0_0_0) shapeCasts_S1x32x1024x2048_S32x1024x2048) (pickR a0))) (broadcastInDim S176x512x2048 ![0, 1, 2] bcast_S176x1x2048_S176x512x2048_0_1_2 (broadcastInDim S176x1x2048 ![0, 2] bcast_S176x2048_S176x1x2048_0_2 (Host.gather gather_S32x2048_S176x1_S176x2048_1_0_n_n_0_1_12048 (shapeCast _ (extractStridedSlice S1x32x2048 ![0, 0, 0] a3 slices_S4x32x2048_S1x32x2048_0_0_0) shapeCasts_S1x32x2048_S32x2048) (pickR a0))))

/-- The gate half, clamped from above. -/
def gluR (a0 : IVec S32 32) (a1 : FVec Ideal S720896x128 .f32) (a2 : FVec Ideal S4x32x1024x2048 .f32) (a3 : FVec Ideal S4x32x2048 .f32) : FVec Ideal S176x512x1024 .f32 :=
  minimumf (extractStridedSlice S176x512x1024 ![0, 0, 0] (hidR a0 a1 a2 a3) slices_S176x512x2048_S176x512x1024_0_0_0) (broadcastInDim S176x512x1024 ![] bcast_S_S176x512x1024 (constant S_ .f32 0x40E00000#32))

/-- The hidden activations. -/
def actR (a0 : IVec S32 32) (a1 : FVec Ideal S720896x128 .f32) (a2 : FVec Ideal S4x32x1024x2048 .f32) (a3 : FVec Ideal S4x32x2048 .f32) : FVec Ideal S176x512x1024 .f32 :=
  mulf (mulf (gluR a0 a1 a2 a3) (Host.divf (broadcastInDim S176x512x1024 ![] bcast_S_S176x512x1024 (constant S_ .f32 0x3F800000#32)) (addf (broadcastInDim S176x512x1024 ![] bcast_S_S176x512x1024 (constant S_ .f32 0x3F800000#32)) (Host.exp (Host.negf (mulf (broadcastInDim S176x512x1024 ![] bcast_S_S176x512x1024 (constant S_ .f32 0x3FD9DB23#32)) (gluR a0 a1 a2 a3))))))) (addf (minimumf (broadcastInDim S176x512x1024 ![] bcast_S_S176x512x1024 (id (constant S_ .f32 0x40E00000#32))) (maximumf (broadcastInDim S176x512x1024 ![] bcast_S_S176x512x1024 (id (constant S_ .f32 0xC0E00000#32))) (extractStridedSlice S176x512x1024 ![0, 0, 1024] (hidR a0 a1 a2 a3) slices_S176x512x2048_S176x512x1024_0_0_1024))) (broadcastInDim S176x512x1024 ![] bcast_S_S176x512x1024 (constant S_ .f32 0x3F800000#32)))

/-- The second product with its bias. -/
def outR (a0 : IVec S32 32) (a1 : FVec Ideal S720896x128 .f32) (a2 : FVec Ideal S4x32x1024x2048 .f32) (a3 : FVec Ideal S4x32x2048 .f32) (a4 : FVec Ideal S4x32x1024x1024 .f32) (a5 : FVec Ideal S4x32x1024 .f32) : FVec Ideal S176x512x1024 .f32 :=
  addf (Host.dotGeneral dot_S176x512x1024_S176x1024x1024_S176x512x1024_2_1_1_2_0_0 none (actR a0 a1 a2 a3) (Host.gather gather_S32x1024x1024_S176x1_S176x1024x1024_12_0_n_n_0_1_110241024 (shapeCast _ (extractStridedSlice S1x32x1024x1024 ![0, 0, 0, 0] a4 slices_S4x32x1024x1024_S1x32x1024x1024_0_0_0_0) shapeCasts_S1x32x1024x1024_S32x1024x1024) (pickR a0))) (broadcastInDim S176x512x1024 ![0, 1, 2] bcast_S176x1x1024_S176x512x1024_0_1_2 (broadcastInDim S176x1x1024 ![0, 2] bcast_S176x1024_S176x1x1024_0_2 (Host.gather gather_S32x1024_S176x1_S176x1024_1_0_n_n_0_1_11024 (shapeCast _ (extractStridedSlice S1x32x1024 ![0, 0, 0] a5 slices_S4x32x1024_S1x32x1024_0_0_0) shapeCasts_S1x32x1024_S32x1024) (pickR a0))))

/-- The result: the rows of the blocks in use, zero past them. -/
def resR (a0 : IVec S32 32) (a1 : FVec Ideal S720896x128 .f32) (a2 : FVec Ideal S4x32x1024x2048 .f32) (a3 : FVec Ideal S4x32x2048 .f32) (a4 : FVec Ideal S4x32x1024x1024 .f32) (a5 : FVec Ideal S4x32x1024 .f32) : FVec Ideal S720896x128 .f32 :=
  shapeCast _ (select (broadcastInDim S176x512x1024 ![0, 1, 2] bcast_S176x1x1_S176x512x1024_0_1_2 (broadcastInDim S176x1x1 ![0] bcast_S176_S176x1x1_0 (cmpi .sle (addi (muli (iotaInDim S176 32 0) (broadcastInDim S176 ![] bcast_S_S176 (constantI S_ 32 512#32))) (broadcastInDim S176 ![] bcast_S_S176 (constantI S_ 32 512#32))) (broadcastInDim S176 ![] bcast_S_S176 (shapeCast _ (extractStridedSlice S1 ![31] (endsR a0) slices_S32_S1_31) shapeCasts_S1_S_))))) (outR a0 a1 a2 a3 a4 a5) (broadcastInDim S176x512x1024 ![] bcast_S_S176x512x1024 (id (constant S_ .f32 0x00000000#32)))) shapeCasts_S176x512x1024_S720896x128

theorem res_eq (m : (ℓ : Loc nD τ sig) → Buf (Elt Ideal) ℓ) (c : Dev nD) :
    Value.res_main_v90 m c
      = resR (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

end Cert.ReferenceIdeal.Hand

end

end
-- ==== Proof.RefVal.lean ====
module

public import proofs.«01_k».proof.Proof.RefTerm
public import proofs.«01_k».proof.Proof.Tables
public import proofs.«01_k».proof.Proof.Spec

@[expose] public section

set_option maxRecDepth 16384

noncomputable section

/-! # What the reference computes, element by element -/

namespace Cert.ReferenceIdeal.Hand

open Cert.ReferenceIdeal Cert.ReferenceIdeal.Gen
open Idealize.ShloMosaic Cert.Spec
open Cert.KernelIdeal.Hand (ends total Some1 nblk expertOf expert_sum expertOf_lt)

/-! ## Picking an expert's weights -/

section Pick
variable {α : Type}

/-- Picking a matrix for each of 176 indices. -/
abbrev pickDims (A B : ℕ) (wf : GatherDims.WF ⟨3, ![32, A, B]⟩ ⟨2, ![176, 1]⟩ ⟨3, ![176, A, B]⟩ [1, 2] [0] [] [0] [] 1 ![1, A, B]) :
    GatherDims ⟨3, ![32, A, B]⟩ ⟨2, ![176, 1]⟩ ⟨3, ![176, A, B]⟩ where
  offsetDims := [1, 2]
  collapsedSliceDims := [0]
  operandBatchingDims := []
  startIndicesBatchingDims := []
  startIndexMap := [0]
  indexVectorDim := 1
  sliceSizes := ![1, A, B]
  wf := wf

/-- The picked matrix is the one at the index, when the index is in range. -/
theorem pick_at (A B : ℕ) (wf) (x : (⟨3, ![32, A, B]⟩ : Shape).Idx → α) (idx : IVec ⟨2, ![176, 1]⟩ 32) (n : Fin 176) (a : Fin A) (b : Fin B)
    (e : Fin 32) (he : (idx (ix2 n 0)).toInt = e.val) :
    Host.gather (pickDims A B wf) x idx (ix3 n a b) = x (ix3 e a b) := by
  unfold Host.gather
  congr 1
  funext k
  refine Fin.ext ?_
  show (pickDims A B wf).start (ix3 n a b) idx k + (pickDims A B wf).batchCoord (ix3 n a b) k + (pickDims A B wf).offCoord (ix3 n a b) k = _
  rw [GatherDims.batchCoord_eq_zero _ _ _ List.not_mem_nil]
  have hk : k = 0 ∨ k = 1 ∨ k = 2 := by
    match k with
    | ⟨0, _⟩ => exact Or.inl rfl
    | ⟨1, _⟩ => exact Or.inr (Or.inl rfl)
    | ⟨2, _⟩ => exact Or.inr (Or.inr rfl)
  rcases hk with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (pickDims A B wf).startIndexMap from List.mem_singleton.mpr rfl)]
    have hsi : (pickDims A B wf).siIdx (ix3 n a b) ⟨List.idxOf (0 : Fin 3) (pickDims A B wf).startIndexMap,
        List.idxOf_lt_length_iff.2 (List.mem_singleton.mpr rfl)⟩ = ix2 n 0 := by
      funext c
      refine Fin.ext ?_
      match c with
      | ⟨0, _⟩ => rfl
      | ⟨1, _⟩ => rfl
    erw [hsi, he]
    show min (e.val : ℤ).toNat (32 - 1) + 0 + 0 = e.val
    omega
  · unfold GatherDims.start
    rw [dif_neg (by simp [pickDims])]
    show 0 + 0 + a.val = a.val
    omega
  · unfold GatherDims.start
    rw [dif_neg (by simp [pickDims])]
    show 0 + 0 + b.val = b.val
    omega

/-- Picking a vector for each of 176 indices. -/
abbrev pickDims' (A : ℕ) (wf : GatherDims.WF ⟨2, ![32, A]⟩ ⟨2, ![176, 1]⟩ ⟨2, ![176, A]⟩ [1] [0] [] [0] [] 1 ![1, A]) :
    GatherDims ⟨2, ![32, A]⟩ ⟨2, ![176, 1]⟩ ⟨2, ![176, A]⟩ where
  offsetDims := [1]
  collapsedSliceDims := [0]
  operandBatchingDims := []
  startIndicesBatchingDims := []
  startIndexMap := [0]
  indexVectorDim := 1
  sliceSizes := ![1, A]
  wf := wf

/-- The picked vector is the one at the index, when the index is in range. -/
theorem pick_at' (A : ℕ) (wf) (x : (⟨2, ![32, A]⟩ : Shape).Idx → α) (idx : IVec ⟨2, ![176, 1]⟩ 32) (n : Fin 176) (a : Fin A)
    (e : Fin 32) (he : (idx (ix2 n 0)).toInt = e.val) :
    Host.gather (pickDims' A wf) x idx (ix2 n a) = x (ix2 e a) := by
  unfold Host.gather
  congr 1
  funext k
  refine Fin.ext ?_
  show (pickDims' A wf).start (ix2 n a) idx k + (pickDims' A wf).batchCoord (ix2 n a) k + (pickDims' A wf).offCoord (ix2 n a) k = _
  rw [GatherDims.batchCoord_eq_zero _ _ _ List.not_mem_nil]
  have hk : k = 0 ∨ k = 1 := by
    match k with
    | ⟨0, _⟩ => exact Or.inl rfl
    | ⟨1, _⟩ => exact Or.inr rfl
  rcases hk with rfl | rfl
  · rw [GatherDims.offCoord_eq_zero _ _ _ (fun h => ((GatherDims.mem_sKept _ _).mp h).1 (List.mem_singleton.mpr rfl))]
    unfold GatherDims.start
    rw [dif_pos (show (0 : Fin 2) ∈ (pickDims' A wf).startIndexMap from List.mem_singleton.mpr rfl)]
    have hsi : (pickDims' A wf).siIdx (ix2 n a) ⟨List.idxOf (0 : Fin 2) (pickDims' A wf).startIndexMap,
        List.idxOf_lt_length_iff.2 (List.mem_singleton.mpr rfl)⟩ = ix2 n 0 := by
      funext c
      refine Fin.ext ?_
      match c with
      | ⟨0, _⟩ => rfl
      | ⟨1, _⟩ => rfl
    erw [hsi, he]
    show min (e.val : ℤ).toNat (32 - 1) + 0 + 0 = e.val
    omega
  · unfold GatherDims.start
    rw [dif_neg (by simp [pickDims'])]
    show 0 + 0 + a.val = a.val
    omega

end Pick

/-! ## The expert of a block, and the blocks in use -/

theorem ends_same (a0 : IVec S32 32) : endsR a0 = ends a0 := rfl

theorem expertR_at (a0 : IVec S32 32) (n : Fin 176) : expertR a0 (ix1 n) = expertOf (ends a0) (BitVec.ofNat 32 (512 * n.val)) := by
  unfold expertR
  rw [ends_same]
  refine expert_sum (s := S1) (t := S1) 176 n (ends a0) _ _ ?_ _ _ _
  intro q
  pointwise
  refine congrArg (IntOp.cmpi .sle (ends a0 (ix1 q))) ?_
  apply BitVec.eq_of_toNat_eq
  unfold IntOp.muli
  simp only [BitVec.toNat_mul, BitVec.toNat_ofNat]
  omega

/-- The expert of block `n`. -/
def eR (a0 : IVec S32 32) (n : ℕ) : Fin 32 := ⟨(expertOf (ends a0) (BitVec.ofNat 32 (512 * n))).toNat, expertOf_lt _ _⟩

theorem pickR_at (a0 : IVec S32 32) (n : Fin 176) : (pickR a0 (ix2 n 0)).toInt = (eR a0 n.val).val := by
  pointwise [pickR]
  rw [expertR_at]
  have hlt := expertOf_lt (ends a0) (BitVec.ofNat 32 (512 * n.val))
  show _ = ((expertOf (ends a0) (BitVec.ofNat 32 (512 * n.val))).toNat : ℤ)
  generalize expertOf (ends a0) (BitVec.ofNat 32 (512 * n.val)) = e at hlt ⊢
  have h1 : e.toInt = e.toNat := by rw [BitVec.toInt_eq_toNat_cond, if_pos (by omega)]
  have h2 : IntOp.cmpi .slt e 0#32 = 0#1 := by
    show BitVec.ofBool (e.slt 0#32) = _
    have : e.slt 0#32 = false := by
      rw [← Bool.not_eq_true, BitVec.slt_iff_toInt_lt, h1]
      simp
    rw [this]
    rfl
  rw [h2]
  exact h1

/-- Block `n` is in use when its last row is within the rows held. -/
theorem used_iff (a0 : IVec S32 32) (h : Some1 a0) (n : ℕ) (hn : n < 176) :
    IntOp.cmpi .sle (IntOp.addi (IntOp.muli (BitVec.ofNat 32 n) 512#32) 512#32) (total a0) = if n < nblk a0 then 1#1 else 0#1 := by
  obtain ⟨h0, h1⟩ := h.bounds
  unfold nblk
  generalize total a0 = w at h0 h1 ⊢
  have e : IntOp.addi (IntOp.muli (BitVec.ofNat 32 n) 512#32) 512#32 = BitVec.ofNat 32 (512 * n + 512) := by
    apply BitVec.eq_of_toNat_eq
    unfold IntOp.addi IntOp.muli
    simp only [BitVec.toNat_add, BitVec.toNat_mul, BitVec.toNat_ofNat]
    omega
  rw [e]
  have hs : (BitVec.ofNat 32 (512 * n + 512)).sle w = decide (n < w.toNat / 512) := by
    rw [Bool.eq_iff_iff, BitVec.sle_iff_toInt_le, decide_eq_true_iff, BitVec.toInt_eq_toNat_cond, BitVec.toInt_eq_toNat_cond,
      BitVec.toNat_ofNat, Nat.mod_eq_of_lt (by omega), if_pos (by omega), if_pos (by omega)]
    omega
  show BitVec.ofBool ((BitVec.ofNat 32 (512 * n + 512)).sle w) = _
  rw [hs]
  by_cases hc : n < w.toNat / 512
  · rw [if_pos hc, decide_eq_true hc]; rfl
  · rw [if_neg hc, decide_eq_false hc]; rfl

/-! ## The two products and the gated unit -/

variable (a0 : IVec S32 32) (a1 : FVec Ideal S720896x128 .f32) (a2 : FVec Ideal S4x32x1024x2048 .f32) (a3 : FVec Ideal S4x32x2048 .f32)
  (a4 : FVec Ideal S4x32x1024x1024 .f32) (a5 : FVec Ideal S4x32x1024 .f32)

/-- Row `r` of block `n`: eight lines of 128. -/
def rowR (n : Fin 176) (r : Fin 512) (d : Fin 1024) : EReal :=
  a1 (ix2 ⟨4096 * n.val + 8 * r.val + d.val / 128, by omega⟩ ⟨d.val % 128, by omega⟩)

theorem wgu_at (n : Fin 176) (d : Fin 1024) (f : Fin 2048) :
    (Host.gather gather_S32x1024x2048_S176x1_S176x1024x2048_12_0_n_n_0_1_110242048
      (shapeCast S32x1024x2048 (extractStridedSlice S1x32x1024x2048 ![0, 0, 0, 0] a2 slices_S4x32x1024x2048_S1x32x1024x2048_0_0_0_0)
        shapeCasts_S1x32x1024x2048_S32x1024x2048) (pickR a0) (ix3 n d f) : EReal) = a2 (ix4 0 (eR a0 n.val) d f) := by
  refine (pick_at 1024 2048 _ _ (pickR a0) n d f (eR a0 n.val) (pickR_at a0 n)).trans ?_
  pointwise

theorem bgu_at (n : Fin 176) (f : Fin 2048) :
    (Host.gather gather_S32x2048_S176x1_S176x2048_1_0_n_n_0_1_12048
      (shapeCast S32x2048 (extractStridedSlice S1x32x2048 ![0, 0, 0] a3 slices_S4x32x2048_S1x32x2048_0_0_0)
        shapeCasts_S1x32x2048_S32x2048) (pickR a0) (ix2 n f) : EReal) = a3 (ix3 0 (eR a0 n.val) f) := by
  refine (pick_at' 2048 _ _ (pickR a0) n f (eR a0 n.val) (pickR_at a0 n)).trans ?_
  pointwise

theorem wdn_at (n : Fin 176) (d : Fin 1024) (f : Fin 1024) :
    (Host.gather gather_S32x1024x1024_S176x1_S176x1024x1024_12_0_n_n_0_1_110241024
      (shapeCast S32x1024x1024 (extractStridedSlice S1x32x1024x1024 ![0, 0, 0, 0] a4 slices_S4x32x1024x1024_S1x32x1024x1024_0_0_0_0)
        shapeCasts_S1x32x1024x1024_S32x1024x1024) (pickR a0) (ix3 n d f) : EReal) = a4 (ix4 0 (eR a0 n.val) d f) := by
  refine (pick_at 1024 1024 _ _ (pickR a0) n d f (eR a0 n.val) (pickR_at a0 n)).trans ?_
  pointwise

theorem bdn_at (n : Fin 176) (f : Fin 1024) :
    (Host.gather gather_S32x1024_S176x1_S176x1024_1_0_n_n_0_1_11024
      (shapeCast S32x1024 (extractStridedSlice S1x32x1024 ![0, 0, 0] a5 slices_S4x32x1024_S1x32x1024_0_0_0)
        shapeCasts_S1x32x1024_S32x1024) (pickR a0) (ix2 n f) : EReal) = a5 (ix3 0 (eR a0 n.val) f) := by
  refine (pick_at' 1024 _ _ (pickR a0) n f (eR a0 n.val) (pickR_at a0 n)).trans ?_
  pointwise

/-- The first product with its bias. -/
theorem hidR_at (n : Fin 176) (r : Fin 512) (f : Fin 2048) :
    (hidR a0 a1 a2 a3 (ix3 n r f) : EReal)
      = pre (rowR a1 n r) (fun d f => a2 (ix4 0 (eR a0 n.val) d f)) (fun f => a3 (ix3 0 (eR a0 n.val) f)) f := by
  pointwise [hidR]
  simp only [wgu_at, bgu_at]
  unfold pre rowR
  refine congrArg (· + _) (Finset.sum_congr rfl fun d _ => congrArg (· * _) (congrArg a1 ?_))
  congr 1
  exact Fin.ext (by show n.val * 4096 + r.val * 8 + d.val / 128 = 4096 * n.val + 8 * r.val + d.val / 128; omega)

/-- The hidden activations. -/
theorem actR_at (n : Fin 176) (r : Fin 512) (f : Fin 1024) :
    (actR a0 a1 a2 a3 (ix3 n r f) : EReal)
      = hid (rowR a1 n r) (fun d f => a2 (ix4 0 (eR a0 n.val) d f)) (fun f => a3 (ix3 0 (eR a0 n.val) f)) f := by
  pointwise [actR, gluR]
  simp only [hidR_at]
  rfl

/-- The result: line `p` of 128 is a piece of row `p / 8 % 512` of block `p / 4096` through the block's expert, zero past the blocks in use. -/
theorem resR_at (h : Some1 a0) (p : Fin 720896) (l : Fin 128) :
    (resR a0 a1 a2 a3 a4 a5 (ix2 p l) : EReal)
      = if p.val / 4096 < nblk a0 then
          ffn (rowR a1 ⟨p.val / 4096, by omega⟩ ⟨p.val / 8 % 512, by omega⟩) (fun d f => a2 (ix4 0 (eR a0 (p.val / 4096)) d f))
            (fun f => a3 (ix3 0 (eR a0 (p.val / 4096)) f)) (fun f j => a4 (ix4 0 (eR a0 (p.val / 4096)) f j))
            (fun j => a5 (ix3 0 (eR a0 (p.val / 4096)) j)) ⟨128 * (p.val % 8) + l.val, by omega⟩
        else 0 := by
  have hj : (⟨p.val % 8 * 128 + l.val, by omega⟩ : Fin 1024) = ⟨128 * (p.val % 8) + l.val, by omega⟩ :=
    Fin.ext (by show p.val % 8 * 128 + l.val = 128 * (p.val % 8) + l.val; omega)
  pointwise [resR, outR]
  simp only [wdn_at, bdn_at, actR_at, hj]
  rw [ends_same]
  have hu := used_iff a0 h (p.val / 4096) (by omega)
  unfold total at hu
  rw [hu]
  split
  · rfl
  · exact Ideal.ofBits_zero_f32

end Cert.ReferenceIdeal.Hand

end

end
-- ==== Proof.Array.lean ====
module

public import proofs.«01_k».proof.Proof.Entry
public import proofs.«01_k».proof.Proof.KVal
public import proofs.«01_k».proof.Proof.RefVal
public import Idealize.ShloMosaic.Lib.Pipeline.ValueKit
public import Idealize.ShloMosaic.Lib.Pipeline.Covers

@[expose] public section

set_option maxRecDepth 16384

noncomputable section

/-! # The kernel's result array, in exact arithmetic, is the reference's -/

namespace Cert.KernelIdeal.Hand

open Cert.KernelIdeal Cert.KernelIdeal.Gen
open Idealize.ShloMosaic Idealize.SL.Sem Cert.Spec
open Idealize.ShloMosaic.TcCoe
open Cert.ReferenceIdeal.Hand (resR resR_at rowR eR)

variable (m : (ℓ : Loc nD τ sig) → Buf (Elt Ideal) ℓ) (c : Dev nD)

/-- The reference's result, of the kernel's arguments on device `c`. -/
def want : S720896x128.Idx → Elt Ideal .f32 :=
  resR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

variable (x : IVec S32 32) (h : Some1 x)

/-- A point in use takes the expert the reference gives its block. -/
theorem eN_used (n : ℕ) (hn : n < nblk x) : eN x n = eR x n := by
  refine Fin.ext ?_
  show (expertOf (ends x) (BitVec.ofNat 32 (512 * min n (nblk x - 1)))).toNat = (expertOf (ends x) (BitVec.ofNat 32 (512 * n))).toNat
  rw [Nat.min_eq_left (by omega : n ≤ nblk x - 1)]

/-- Line `p` of the block that point `t` leaves is line `4096 t + p` of the reference's result. -/
theorem outAt_at (hx : m ((c.tc : Thread nD τ).loc main_arg0) = x) (t : Fin (cfgA (F := Ideal) x h).N) (p : Fin 4096) (l : Fin 128) :
    (outAt x h m c t (ix2 p l) : EReal)
      = want m c (ix2 ⟨4096 * t.val + p.val, by have h0 : t.val < 176 := t.isLt; omega⟩ l) := by
  have h0 : t.val < 176 := t.isLt
  unfold want
  rw [hx, resR_at _ _ _ _ _ _ h]
  have q1 : (4096 * t.val + p.val) / 4096 = t.val := by omega
  have q2 : (4096 * t.val + p.val) / 8 % 512 = p.val / 8 := by omega
  have q3 : (4096 * t.val + p.val) % 8 = p.val % 8 := by omega
  simp only [q1, q2, q3]
  unfold outAt
  by_cases hc : t.val < nblk x
  · rw [if_pos hc, if_pos hc]
    unfold wguT wdnT
    rw [outv_at, iblk0, iblk1, iblk2, iblk3, iblk4, eN_used x t.val hc, V_arg1, V_arg2, V_arg4]
    congr 1
    · funext d
      unfold rowOf rowR
      refine congrArg (m ((c.tc : Thread nD τ).loc main_arg1)) ?_
      have e : min t.val (nblk x - 1) = t.val := by omega
      refine congrArg₂ ix2 (Fin.ext ?_) rfl
      show 4096 * min t.val (nblk x - 1) + (8 * (p.val / 8) + d.val / 128) = 4096 * t.val + 8 * (p.val / 8) + d.val / 128
      rw [e]; omega
    · funext f
      exact V_v26 m c 0 (eR x t.val) f
    · funext j
      exact V_v27 m c 0 (eR x t.val) j
  · rw [if_neg hc, if_neg hc]
    exact pay1_at _

theorem tr5_eq (i : grid0.Coords) : cc0_transform_5 i = ![(i 0).val, 0] := by
  have h0 : (i 0).val < 176 := (i 0).isLt
  unfold cc0_transform_5
  funext a
  match a with
  | ⟨0, _⟩ => show (BitVec.ofNat 32 (i 0).val).toNat = (i 0).val; rw [BitVec.toNat_ofNat]; omega
  | ⟨1, _⟩ => rfl

/-- The blocks of the points fill the result. -/
theorem covers5 : ((cfgA (F := Ideal) x h).win (5 : Fin 6)).Covers := by
  refine Pipeline.Window.covers_of_index_surj _ rfl (by intro a; match a with | ⟨0, _⟩ => exact (by decide : 0 < 4096) | ⟨1, _⟩ => exact (by decide : 0 < 128)) fun β => ?_
  have b0 : (β 0).val < (720896 + 4096 - 1) / 4096 := (β 0).isLt
  have b1 : (β 1).val < (128 + 128 - 1) / 128 := (β 1).isLt
  have hN : (720896 + 4096 - 1) / 4096 = (cfgA (F := Ideal) x h).N := by
    show _ = grid0.N
    decide +kernel
  rw [hN] at b0
  refine ⟨⟨(β 0).val, b0⟩, fun a => ?_⟩
  have e := tr5_eq (crd x h ⟨(β 0).val, b0⟩)
  rw [crd_val] at e
  match a with
  | ⟨0, _⟩ => exact congrFun e 0
  | ⟨1, _⟩ => exact (congrFun e 1).trans (by show 0 = (β 1).val; omega)

/-- After the last point the result array holds the reference's result. -/
theorem arr_eq (hx : m ((c.tc : Thread nD τ).loc main_arg0) = x) :
    @Eq (S720896x128.Idx → Elt Ideal .f32) ((dats x h m 0 c).arrAt (5 : Fin 6) (cfgA (F := Ideal) x h).N) (want m c) := by
  refine (dats x h m 0 c).arrAt_eq_of_covers (5 : Fin 6) (want m c) (covers5 x h) (fun t _ y => ?_)
  have h0 : t.val < 176 := t.isLt
  have y0 : (y 0).val < 4096 := (y 0).isLt
  have y1 : (y 1).val < 128 := (y 1).isLt
  have e := tr5_eq (crd x h t)
  rw [crd_val] at e
  refine (?_ : _ = outAt x h m c t (ix2 ⟨(y 0).val, y0⟩ ⟨(y 1).val, y1⟩)).trans ((outAt_at m c x h hx t ⟨(y 0).val, y0⟩ ⟨(y 1).val, y1⟩).trans ?_)
  · show outAt x h m c t _ = _
    refine congrArg (outAt x h m c t) (funext fun a => ?_)
    match a with
    | ⟨0, _⟩ => rfl
    | ⟨1, _⟩ => rfl
  · refine congrArg (want m c) (funext fun a => Fin.ext ?_)
    match a with
    | ⟨0, _⟩ =>
      show 4096 * t.val + (y 0).val = cc0_transform_5 (crd x h t) 0 * 4096 + 1 * (y 0).val
      rw [e]
      show _ = t.val * 4096 + _
      omega
    | ⟨1, _⟩ =>
      show (y 1).val = cc0_transform_5 (crd x h t) 1 * 128 + 1 * (y 1).val
      rw [e]
      show _ = 0 * 128 + _
      omega

end Cert.KernelIdeal.Hand

end

end
-- ==== Proof.Equal.lean ====
module

public import proofs.«01_k».proof.Defs
public import proofs.«01_k».proof.Proof.Array
public import proofs.«01_k».proof.Proof.Gen.Pre_some_rows

@[expose] public section

set_option maxRecDepth 16384

noncomputable section

/-! # The two programs end with equal results -/

namespace Cert.Proof

open Idealize.ShloMosaic Idealize.SL.Sem
open Idealize.ShloMosaic.TcCoe
open Cert.KernelIdeal.Hand

/-- From equal arguments with at least one block in use, in exact arithmetic, the kernel and the reference both end, their
    results are the same array, and both leave their arguments as they were. -/
theorem algebraic : Cert.algebraic_KernelIdeal_ReferenceIdeal := by
  intro m g m' g' hp hag
  have hs : ∀ c : Dev Cert.KernelIdeal.nD, Some1 (m ((c.tc : Thread Cert.KernelIdeal.nD Cert.KernelIdeal.τ).loc Cert.KernelIdeal.main_arg0)) :=
    fun c => some1_of_pre _ _ _ _ _ _ (hp c)
  have hx : ∀ c : Dev Cert.KernelIdeal.nD, m ((c.tc : Thread Cert.KernelIdeal.nD Cert.KernelIdeal.τ).loc Cert.KernelIdeal.main_arg0)
      = m (((0 : Dev Cert.KernelIdeal.nD).tc : Thread Cert.KernelIdeal.nD Cert.KernelIdeal.τ).loc Cert.KernelIdeal.main_arg0) :=
    fun c => by rw [Subsingleton.elim (α := Fin 1) c 0]
  refine ⟨fun c => want m c, ?_, ?_⟩
  · exact (θ_run Cert.KernelIdeal.defs _ _).mono
      (fun r hr c => ⟨(hr.1 c).1.trans (arr_eq m c _ (hs 0) (hx c)), (hr.1 c).2⟩) (run_post (F := Ideal) m g _ (hs 0) hx)
  · refine (θ_run Cert.ReferenceIdeal.defs _ _).mono (fun r hr c => ⟨(hr c).1.trans ?_, (hr c).2⟩)
      (Cert.ReferenceIdeal.Value.run (F := Ideal) m' g')
    obtain ⟨h0, h1, h2, h3, h4, h5⟩ := hag c
    refine (Cert.ReferenceIdeal.Hand.res_eq m' c).trans ?_
    rw [h0, h1, h2, h3, h4, h5]
    rfl

end Cert.Proof

end

end
-- ==== Proof.Row.lean ====
module

public import Idealize.ShloMosaic.Lib.Pointwise

@[expose] public section

noncomputable section

/-! # The mathematics: a token's normed and modulated row, and its product with a column of the projection -/

namespace Cert.Spec

open Idealize.ShloMosaic

/-- A row divided by its root mean square, scaled by `g`, then modulated by the scale `sc` and the shift `sh`. -/
def row (x g sc sh : Fin 1024 → EReal) (d : Fin 1024) : EReal :=
  x d * Ideal.rsqrt (Ideal.div (∑ e, x e * x e) (Ideal.ofBits .f32 1149239296#32) + Ideal.ofBits .f32 897988541#32) * g d
    * (1 + sc d) + sh d

/-- Token `t` of sequence `b`: 2048 latents, then 256 context tokens. -/
def tok (x : Fin 8 → Fin 2048 → Fin 1024 → EReal) (y : Fin 8 → Fin 256 → Fin 1024 → EReal) (b : Fin 8) (t : Fin 2304) :
    Fin 1024 → EReal :=
  if h : t.val < 2048 then x b ⟨t.val, h⟩ else y b ⟨t.val - 2048, by omega⟩

/-- The row of the modulation table that a token takes: its sequence's for a latent, row 8 for a context token. -/
def modRow (b : Fin 8) (t : Fin 2304) : Fin 16 :=
  if t.val < 2048 then ⟨b.val, by omega⟩ else 8

/-- Token `t` of sequence `b`, normed and modulated: the table holds the shift first, then the scale. -/
def inp (x : Fin 8 → Fin 2048 → Fin 1024 → EReal) (y : Fin 8 → Fin 256 → Fin 1024 → EReal) (md : Fin 16 → Fin 6144 → EReal)
    (g : Fin 1024 → EReal) (b : Fin 8) (t : Fin 2304) : Fin 1024 → EReal :=
  row (tok x y b t) g (fun d => md (modRow b t) ⟨1024 + d.val, by omega⟩) (fun d => md (modRow b t) ⟨d.val, by omega⟩)

/-- The latent at place `t` of the order that takes the 32 by 64 grid column by column. -/
def colM (t : Fin 2048) : Fin 2048 := ⟨t.val % 32 * 64 + t.val / 32, by omega⟩

/-- Column `n` of the projection's weights; there is none from 4672 on, which stands for a column of zeros. -/
def wAt (w : Fin 1024 → Fin 4672 → EReal) (d : Fin 1024) (n : ℕ) : EReal :=
  if h : n < 4672 then w d ⟨n, h⟩ else 0

/-- A row's product with column `n`. -/
def prod (r : Fin 1024 → EReal) (w : Fin 1024 → Fin 4672 → EReal) (n : ℕ) : EReal :=
  ∑ d, r d * wAt w d n

theorem prod_zero (r : Fin 1024 → EReal) (w : Fin 1024 → Fin 4672 → EReal) : prod r w 4672 = 0 := by
  simp [prod, wAt]

theorem prod_lt (r : Fin 1024 → EReal) (w : Fin 1024 → Fin 4672 → EReal) (n : Fin 4672) : ∑ d, r d * w d n = prod r w n.val := by
  unfold prod wAt
  simp only [n.isLt, dite_true, Fin.eta]

/-- The projection's column at place `j` of the first mixer's input: for each of four heads query, key, value and gate, then the decay's columns, then zeros. -/
def glaCol (j : ℕ) : ℕ :=
  if j < 1536 then
    if j % 384 < 64 then 64 * (j / 384) + j % 384
    else if j % 384 < 128 then 256 + 64 * (j / 384) + (j % 384 - 64)
    else if j % 384 < 256 then 512 + 128 * (j / 384) + (j % 384 - 128)
    else 1024 + 128 * (j / 384) + (j % 384 - 256)
  else if j < 1568 then j else 4672

/-- The projection's column at place `j` of the second mixer's input: for each of four heads query, key, value and output gate, then the head's four gate columns, each held 32 times. -/
def mlCol (j : ℕ) : ℕ :=
  if j % 512 < 64 then 1568 + 64 * (j / 512) + j % 512
  else if j % 512 < 128 then 1824 + 64 * (j / 512) + (j % 512 - 64)
  else if j % 512 < 256 then 2080 + 128 * (j / 512) + (j % 512 - 128)
  else if j % 512 < 384 then 2592 + 128 * (j / 512) + (j % 512 - 256)
  else 3104 + 4 * ((j % 512 - 384) / 32) + j / 512

/-- The projection's column at place `j` of the third mixer's input: for each of two groups of heads gate, value, the two state projections and the step sizes of both directions, then zeros. -/
def m2Col (j : ℕ) : ℕ :=
  if j % 896 < 256 then 3120 + 256 * (j / 896) + j % 896
  else if j % 896 < 512 then 3632 + 256 * (j / 896) + (j % 896 - 256)
  else if j % 896 < 640 then 4144 + 128 * (j / 896) + (j % 896 - 512)
  else if j % 896 < 768 then 4400 + 128 * (j / 896) + (j % 896 - 640)
  else if j % 896 < 776 then 4656 + 8 * ((j % 896 - 768) / 4) + 4 * (j / 896) + (j % 896 - 768) % 4
  else 4672

end Cert.Spec

end

end
-- ==== Proof.KPack.lean ====
module

public import proofs.«01_k».proof.Proof.Gen.Kernel2Ideal.Frame
public import proofs.«01_k».proof.Proof.Row
public import Idealize.ShloMosaic.Lib.StableHlo.ReadAt

@[expose] public section

set_option maxRecDepth 16384

noncomputable section

/-! # The projection's weights as the kernel packs them: the columns of the two mixers side by side -/

namespace Cert.Kernel2Ideal.Hand

open Cert.Kernel2Ideal Cert.Kernel2Ideal.Gen
open Idealize.ShloMosaic Cert.Spec
open Idealize.ShloMosaic.TcCoe
open Idealize.SL Idealize.SL.Sem

variable (m : (ℓ : Loc nD τ sig) → Buf (Elt Ideal) ℓ) (c : Dev nD)

/-- The projection's weights, of the kernel's arguments on device `c`. -/
def wK (d : Fin 1024) (n : Fin 4672) : EReal := m ((c.tc : Thread nD τ).loc main_arg4) (ix3 0 d n)

/-- The column packed at place `j`. -/
def packCol (j : ℕ) : ℕ := if j < 1664 then glaCol j else mlCol (j - 1664)

/-- A column of the weights, named by its number. -/
theorem wK_at (d : Fin 1024) (k : Fin 4672) (n : ℕ) (h : k.val = n) :
    @Eq EReal (m ((c.tc : Thread nD τ).loc main_arg4) (ix3 0 d k)) (wAt (wK m c) d n) := by
  subst h
  unfold wAt wK
  rw [dif_pos k.isLt]

/-- A column of zeros, named by its number. -/
theorem zero_at (d : Fin 1024) (n : ℕ) (h : n = 4672) : @Eq EReal 0 (wAt (wK m c) d n) := by
  subst h
  rfl

/-- The host's buffers where the packed weights are put together. -/
abbrev Vp : Valuation τ sig (Elt Ideal) := StableHlo.upto hostOps0 (fun b => m (c, b)) 122

set_option maxHeartbeats 4000000 in
/-- The packed weights' columns 0 to 639. -/
theorem V_v114 (d : Fin 1024) (j : Fin 640) :
    @Eq EReal (Vp m c (Proc.tc.devRef main_v114) (ix3 0 d j)) (wAt (wK m c) d (packCol j.val)) := by
  unfold Vp
  after_reads_at
  after_reads_at
  split_ifs <;> first | refine wK_at m c d _ _ ?_ | refine zero_at m c d _ ?_
  all_goals ((try dsimp only); unfold packCol glaCol mlCol; split_ifs <;> omega)

set_option maxHeartbeats 4000000 in
/-- The packed weights' columns 640 to 1279. -/
theorem V_v115 (d : Fin 1024) (j : Fin 640) :
    @Eq EReal (Vp m c (Proc.tc.devRef main_v115) (ix3 0 d j)) (wAt (wK m c) d (packCol (640 + j.val))) := by
  unfold Vp
  after_reads_at
  after_reads_at
  split_ifs <;> first | refine wK_at m c d _ _ ?_ | refine zero_at m c d _ ?_
  all_goals ((try dsimp only); unfold packCol glaCol mlCol; split_ifs <;> omega)

set_option maxHeartbeats 4000000 in
/-- The packed weights' columns 1280 to 2047. -/
theorem V_v116 (d : Fin 1024) (j : Fin 768) :
    @Eq EReal (Vp m c (Proc.tc.devRef main_v116) (ix3 0 d j)) (wAt (wK m c) d (packCol (1280 + j.val))) := by
  unfold Vp
  after_reads_at
  after_reads_at
  split_ifs <;> first | refine wK_at m c d _ _ ?_ | refine zero_at m c d _ ?_
  all_goals ((try dsimp only); unfold packCol glaCol mlCol; split_ifs <;> omega)

set_option maxHeartbeats 4000000 in
/-- The packed weights' columns 2048 to 2431. -/
theorem V_v117 (d : Fin 1024) (j : Fin 384) :
    @Eq EReal (Vp m c (Proc.tc.devRef main_v117) (ix3 0 d j)) (wAt (wK m c) d (packCol (2048 + j.val))) := by
  unfold Vp
  after_reads_at
  after_reads_at
  split_ifs <;> first | refine wK_at m c d _ _ ?_ | refine zero_at m c d _ ?_
  all_goals ((try dsimp only); unfold packCol glaCol mlCol; split_ifs <;> omega)

set_option maxHeartbeats 4000000 in
/-- The packed weights' columns 2432 to 2815. -/
theorem V_v118 (d : Fin 1024) (j : Fin 384) :
    @Eq EReal (Vp m c (Proc.tc.devRef main_v118) (ix3 0 d j)) (wAt (wK m c) d (packCol (2432 + j.val))) := by
  unfold Vp
  after_reads_at
  after_reads_at
  split_ifs <;> first | refine wK_at m c d _ _ ?_ | refine zero_at m c d _ ?_
  all_goals ((try dsimp only); unfold packCol glaCol mlCol; split_ifs <;> omega)

set_option maxHeartbeats 4000000 in
/-- The packed weights' columns 2816 to 3263. -/
theorem V_v119 (d : Fin 1024) (j : Fin 448) :
    @Eq EReal (Vp m c (Proc.tc.devRef main_v119) (ix3 0 d j)) (wAt (wK m c) d (packCol (2816 + j.val))) := by
  unfold Vp
  after_reads_at
  after_reads_at
  split_ifs <;> first | refine wK_at m c d _ _ ?_ | refine zero_at m c d _ ?_
  all_goals ((try dsimp only); unfold packCol glaCol mlCol; split_ifs <;> omega)

set_option maxHeartbeats 4000000 in
/-- The packed weights' columns 3264 to 3711. -/
theorem V_v120 (d : Fin 1024) (j : Fin 448) :
    @Eq EReal (Vp m c (Proc.tc.devRef main_v120) (ix3 0 d j)) (wAt (wK m c) d (packCol (3264 + j.val))) := by
  unfold Vp
  after_reads_at
  after_reads_at
  split_ifs <;> first | refine wK_at m c d _ _ ?_ | refine zero_at m c d _ ?_
  all_goals ((try dsimp only); unfold packCol glaCol mlCol; split_ifs <;> omega)

set_option maxHeartbeats 4000000 in
/-- The weights, as the launch holds them. -/
theorem V_v128 (d : Fin 1024) (j : Fin 3712) : @Eq EReal (V m c main_v128 (ix2 d j)) (wAt (wK m c) d (packCol j.val)) := by
  unfold V
  after_reads_at
  split_ifs
  all_goals try (rename_i h; exact absurd rfl h)
  · exact (V_v114 m c d _).trans (congrArg (fun n => wAt (wK m c) d (packCol n)) (by first | rfl | omega | (dsimp only; omega)))
  · exact (V_v115 m c d _).trans (congrArg (fun n => wAt (wK m c) d (packCol n)) (by first | rfl | omega | (dsimp only; omega)))
  · exact (V_v116 m c d _).trans (congrArg (fun n => wAt (wK m c) d (packCol n)) (by first | rfl | omega | (dsimp only; omega)))
  · exact (V_v117 m c d _).trans (congrArg (fun n => wAt (wK m c) d (packCol n)) (by first | rfl | omega | (dsimp only; omega)))
  · exact (V_v118 m c d _).trans (congrArg (fun n => wAt (wK m c) d (packCol n)) (by first | rfl | omega | (dsimp only; omega)))
  · exact (V_v119 m c d _).trans (congrArg (fun n => wAt (wK m c) d (packCol n)) (by first | rfl | omega | (dsimp only; omega)))
  · exact (V_v120 m c d _).trans (congrArg (fun n => wAt (wK m c) d (packCol n)) (by first | rfl | omega | (dsimp only; omega)))

end Cert.Kernel2Ideal.Hand

end

end
-- ==== Proof.Blocks.lean ====
module

public import proofs.«01_k».proof.Proof.Row

@[expose] public section

set_option maxRecDepth 16384

noncomputable section

/-! # The blocks of tokens: nine of 256 for each of eight sequences, the ninth the context's -/

namespace Cert.Spec

/-- The sequence of block `t`. -/
def bOf (t : Fin 72) : Fin 8 := ⟨t.val / 9, by omega⟩

/-- Token `p` of block `t`. -/
def tOf (t : Fin 72) (p : Fin 256) : Fin 2304 := ⟨t.val % 9 * 256 + p.val, by omega⟩

/-- The modulation row of block `t`. -/
def rOf (t : Fin 72) : Fin 16 := ⟨if t.val % 9 < 8 then t.val / 9 else 8, by split_ifs <;> omega⟩

/-- All tokens of a block take the block's modulation row. -/
theorem modRow_eq (t : Fin 72) (p : Fin 256) : modRow (bOf t) (tOf t p) = rOf t := by
  refine Fin.ext ?_
  unfold modRow rOf bOf tOf
  show (if _ then _ else _ : Fin 16).val = _
  split_ifs with h1 h2 h2 <;> first | rfl | exact absurd h1 (by show ¬ (t.val % 9 * 256 + p.val < 2048); omega) | exact absurd (show t.val % 9 * 256 + p.val < 2048 by omega) h1

end Cert.Spec

end

end
-- ==== Proof.KProj.lean ====
module

public import proofs.«01_k».proof.Proof.Gen.Kernel2Ideal.Value
public import proofs.«01_k».proof.Proof.KPack
public import proofs.«01_k».proof.Proof.Blocks
public import Idealize.ShloMosaic.Lib.StableHlo.ReadAt
public import Idealize.ShloMosaic.Lib.Pipeline.ValueKit
public import Idealize.ShloMosaic.Lib.Pipeline.Covers

@[expose] public section

set_option maxRecDepth 16384

noncomputable section

/-! # The projection's kernel: each entry of its two results is a normed row's product with one column -/

namespace Cert.Kernel2Ideal.Hand

open Cert.Kernel2Ideal Cert.Kernel2Ideal.Gen
open Idealize.ShloMosaic Cert.Spec
open Idealize.ShloMosaic.TcCoe
open Idealize.SL Idealize.SL.Sem

/-- The normed and modulated rows of a block. -/
theorem pay2_at (v0 : Vec Ideal S1x256x1024 .f32) (v12 : Vec Ideal S1x1024 .f32) (v16 v22 : Vec Ideal S1x1x1024 .f32)
    (p : Fin 256) (d : Fin 1024) :
    (k0_pay2 v0 v12 v16 v22 (ix2 p d) : EReal)
      = row (fun d => v0 (ix3 0 p d)) (fun d => v12 (ix2 0 d)) (fun d => v16 (ix3 0 0 d)) (fun d => v22 (ix3 0 0 d)) d := by
  unfold row
  pointwise [k0_pay2]

/-- A block's products with the first columns. -/
theorem pay3_at (v0 : Vec Ideal S1x256x1024 .f32) (v12 : Vec Ideal S1x1024 .f32) (v16 v22 : Vec Ideal S1x1x1024 .f32)
    (w : Vec Ideal S1024x1664 .bf16) (p : Fin 256) (j : Fin 1664) :
    (k0_pay3 v0 v12 v16 v22 w (ix3 0 p j) : EReal) = ∑ d, k0_pay2 v0 v12 v16 v22 (ix2 p d) * w (ix2 d j) := by
  unfold k0_pay3
  generalize k0_pay2 v0 v12 v16 v22 = h
  pointwise

/-- A block's products with the other columns. -/
theorem pay1_at (h : FVec Ideal S256x1024 .bf16) (w : Vec Ideal S1024x2048 .bf16) (p : Fin 256) (j : Fin 2048) :
    (k0_pay1 h w (ix3 0 p j) : EReal) = ∑ d, h (ix2 p d) * w (ix2 d j) := by
  pointwise [k0_pay1]

variable (m : (ℓ : Loc nD τ sig) → Buf (Elt Ideal) ℓ) (c : Dev nD)

/-- A token's row, of the kernel's arguments on device `c`. -/
def inpK (b : Fin 8) (t : Fin 2304) : Fin 1024 → EReal :=
  inp (fun b t d => m ((c.tc : Thread nD τ).loc main_arg0) (ix3 b t d)) (fun b t d => m ((c.tc : Thread nD τ).loc main_arg1) (ix3 b t d))
    (fun r d => m ((c.tc : Thread nD τ).loc main_arg2) (ix3 0 r d)) (fun d => m ((c.tc : Thread nD τ).loc main_arg3) (ix2 0 d)) b t

/-- The tokens, as the launch holds them. -/
theorem V_v122 (b : Fin 8) (t : Fin 2304) (d : Fin 1024) :
    @Eq EReal (V m c main_v122 (ix3 b t d)) (tok (fun b t d => m ((c.tc : Thread nD τ).loc main_arg0) (ix3 b t d))
        (fun b t d => m ((c.tc : Thread nD τ).loc main_arg1) (ix3 b t d)) b t d) := by
  unfold V tok
  simp only [hostOps0]
  after_reads_at
  split <;> rfl

/-- The modulation table, as the launch holds it: six rows for each of the sixteen. -/
theorem V_v124 (r : Fin 96) (d : Fin 1024) :
    @Eq EReal (V m c main_v124 (ix3 r 0 d)) (m ((c.tc : Thread nD τ).loc main_arg2) (ix3 0 ⟨r.val / 6, by omega⟩ ⟨r.val % 6 * 1024 + d.val, by omega⟩)) := by
  unfold V
  simp only [hostOps0]
  after_reads_at

/-- The norm's scale, as the launch holds it. -/
theorem V_v129 (d : Fin 1024) : @Eq EReal (V m c main_v129 (ix2 0 d)) (m ((c.tc : Thread nD τ).loc main_arg3) (ix2 0 d)) := by
  unfold V
  simp only [hostOps0]
  after_reads_at

/-! The blocks' places: nine blocks of tokens for each sequence, the ninth the context's. -/

theorem idx0 : ∀ t : Fin cfg0.N, win0_0.index t = ![t.val / 9, t.val % 9, 0] := by decide +kernel
theorem idx1 : ∀ t : Fin cfg0.N, win0_1.index t = ![(if t.val % 9 < 8 then t.val / 9 else 8) * 6, 0, 0] := by decide +kernel
theorem idx2 : ∀ t : Fin cfg0.N, win0_2.index t = ![(if t.val % 9 < 8 then t.val / 9 else 8) * 6 + 1, 0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val / 9, t.val % 9, 0] := by decide +kernel
theorem idx6 : ∀ t : Fin cfg0.N, win0_6.index t = ![t.val / 9, t.val % 9, 0] := by decide +kernel

theorem iblk0_at (t : Fin cfg0.N) (p : Fin 256) (d : Fin 1024) :
    iblk m c 0 t (ix3 0 p d) = V m c main_v122 (ix3 (bOf t) (tOf t p) d) := by
  show V m c main_v122 (((cfg0.win 0).blk t).view.emb (ix3 0 p d)) = _
  refine congrArg _ (funext fun a => Fin.ext ?_)
  match a with
  | ⟨0, _⟩ => blk_simp [idx0]; simp [bOf]
  | ⟨1, _⟩ => blk_simp [idx0]; simp [tOf]
  | ⟨2, _⟩ => blk_simp [idx0]

theorem iblk1_at (t : Fin cfg0.N) (d : Fin 1024) :
    iblk m c 1 t (ix3 0 0 d) = V m c main_v124 (ix3 ⟨(rOf t).val * 6, by omega⟩ 0 d) := by
  show V m c main_v124 (((cfg0.win 1).blk t).view.emb (ix3 0 0 d)) = _
  refine congrArg _ (funext fun a => Fin.ext ?_)
  match a with
  | ⟨0, _⟩ => blk_simp [idx1]; simp [rOf]
  | ⟨1, _⟩ => blk_simp [idx1]
  | ⟨2, _⟩ => blk_simp [idx1]

theorem iblk2_at (t : Fin cfg0.N) (d : Fin 1024) :
    iblk m c 2 t (ix3 0 0 d) = V m c main_v124 (ix3 ⟨(rOf t).val * 6 + 1, by omega⟩ 0 d) := by
  show V m c main_v124 (((cfg0.win 2).blk t).view.emb (ix3 0 0 d)) = _
  refine congrArg _ (funext fun a => Fin.ext ?_)
  match a with
  | ⟨0, _⟩ => blk_simp [idx2]; simp [rOf]
  | ⟨1, _⟩ => blk_simp [idx2]
  | ⟨2, _⟩ => blk_simp [idx2]

theorem iblk3_at (t : Fin cfg0.N) (d : Fin 1024) : iblk m c 3 t (ix2 0 d) = V m c main_v129 (ix2 0 d) := by
  show V m c main_v129 (((cfg0.win 3).blk t).view.emb (ix2 0 d)) = _
  refine congrArg _ (funext fun a => Fin.ext ?_)
  match a with
  | ⟨0, _⟩ => blk_simp [idx3]
  | ⟨1, _⟩ => blk_simp [idx3]

theorem iblk4_at (t : Fin cfg0.N) (d : Fin 1024) (j : Fin 3712) : iblk m c 4 t (ix2 d j) = V m c main_v128 (ix2 d j) := by
  show V m c main_v128 (((cfg0.win 4).blk t).view.emb (ix2 d j)) = _
  refine congrArg _ (funext fun a => Fin.ext ?_)
  match a with
  | ⟨0, _⟩ => blk_simp [idx4]
  | ⟨1, _⟩ => blk_simp [idx4]

/-- The rows of the block of point `t` are its tokens' rows. -/
theorem rows_at (t : Fin cfg0.N) (p : Fin 256) (d : Fin 1024) :
    (k0_pay2 (iblk m c 0 t) (iblk m c 3 t) (iblk m c 2 t) (iblk m c 1 t) (ix2 p d) : EReal) = inpK m c (bOf t) (tOf t p) d := by
  rw [pay2_at]
  unfold inpK inp
  rw [show modRow (bOf t) (tOf t p) = rOf t from modRow_eq t p]
  refine congrFun (congr (congr (congr (congrArg row ?_) ?_) ?_) ?_) d <;> funext e
  · exact (iblk0_at m c t p e).trans (V_v122 m c _ _ _)
  · exact (iblk3_at m c t e).trans (V_v129 m c _)
  · refine (iblk2_at m c t e).trans ((V_v124 m c _ _).trans (congrArg _ (congrArg₂ (ix3 0) (Fin.ext ?_) (Fin.ext ?_))))
    · show ((rOf t).val * 6 + 1) / 6 = _; omega
    · show ((rOf t).val * 6 + 1) % 6 * 1024 + e.val = 1024 + e.val; omega
  · refine (iblk1_at m c t e).trans ((V_v124 m c _ _).trans (congrArg _ (congrArg₂ (ix3 0) (Fin.ext ?_) (Fin.ext ?_))))
    · show ((rOf t).val * 6) / 6 = _; omega
    · show ((rOf t).val * 6) % 6 * 1024 + e.val = e.val; omega

/-- Entry `(p, j)` of what point `t` leaves in the first result. -/
theorem out5_at (t : Fin cfg0.N) (p : Fin 256) (j : Fin 1664) :
    (k0_pay3 (iblk m c 0 t) (iblk m c 3 t) (iblk m c 2 t) (iblk m c 1 t) (View.ld (iblk m c 4 t) r0_3) (ix3 0 p j) : EReal)
      = prod (inpK m c (bOf t) (tOf t p)) (wK m c) (glaCol j.val) := by
  rw [pay3_at]
  unfold prod
  refine Finset.sum_congr rfl fun d _ => congrArg₂ _ (rows_at m c t p d) ?_
  refine (?_ : _ = iblk m c 4 t (ix2 d ⟨j.val, by omega⟩)).trans ((iblk4_at m c t d _).trans ((V_v128 m c d _).trans ?_))
  · refine congrArg (iblk m c 4 t) (funext fun a => Fin.ext ?_)
    match a with
    | ⟨0, _⟩ => show 0 + 1 * d.val = d.val; omega
    | ⟨1, _⟩ => show 0 + 1 * j.val = j.val; omega
  · show wAt _ d (packCol j.val) = _
    rw [packCol, if_pos j.isLt]

/-- Entry `(p, j)` of what point `t` leaves in the second result. -/
theorem out6_at (t : Fin cfg0.N) (p : Fin 256) (j : Fin 2048) :
    (k0_pay1 (k0_pay2 (iblk m c 0 t) (iblk m c 3 t) (iblk m c 2 t) (iblk m c 1 t)) (View.ld (iblk m c 4 t) r0_5) (ix3 0 p j) : EReal)
      = prod (inpK m c (bOf t) (tOf t p)) (wK m c) (mlCol j.val) := by
  rw [pay1_at]
  unfold prod
  refine Finset.sum_congr rfl fun d _ => congrArg₂ _ (rows_at m c t p d) ?_
  refine (?_ : _ = iblk m c 4 t (ix2 d ⟨1664 + j.val, by omega⟩)).trans ((iblk4_at m c t d _).trans ((V_v128 m c d _).trans ?_))
  · refine congrArg (iblk m c 4 t) (funext fun a => Fin.ext ?_)
    match a with
    | ⟨0, _⟩ => show 0 + 1 * d.val = d.val; omega
    | ⟨1, _⟩ => show 1664 + 1 * j.val = 1664 + j.val; omega
  · show wAt _ d (packCol (1664 + j.val)) = _
    rw [packCol, if_neg (by omega), Nat.add_sub_cancel_left]

/-- After the last point the first result holds the products with the first mixer's columns. -/
theorem arr5_eq : @Eq (S8x2304x1664.Idx → Elt Ideal .f32) ((dats m 0 c).arrAt 5 cfg0.N)
    (fun i => prod (inpK m c (i 0) (i 1)) (wK m c) (glaCol (i 2).val)) := by
  refine (dats m 0 c).arrAt_eq_of_covers 5 _ (by decide +kernel) fun t hf y => ?_
  blk_simp
  rw [after0_5]
  frame_out
  have y0 : (y 0).val < 1 := (y 0).isLt
  have y1 : (y 1).val < 256 := (y 1).isLt
  have y2 : (y 2).val < 1664 := (y 2).isLt
  have e0 : (((cfg0.win 5).blk t).view.emb y 0).val = t.val / 9 := by blk_simp [idx5]
  have e1 : (((cfg0.win 5).blk t).view.emb y 1).val = t.val % 9 * 256 + (y 1).val := by blk_simp [idx5]
  have e2 : win0_5.index t 2 * 1664 + (y 2).val = (y 2).val := by rw [idx5]; show 0 * 1664 + (y 2).val = (y 2).val; omega
  refine (?_ : _ = _).trans ((out5_at m c t ⟨(y 1).val, y1⟩ ⟨(y 2).val, y2⟩).trans ?_)
  · refine congrArg _ (funext fun a => Fin.ext ?_)
    match a with
    | ⟨0, _⟩ => show (y 0).val = 0; omega
    | ⟨1, _⟩ => rfl
    | ⟨2, _⟩ => rfl
  · exact congr (congrArg₂ (fun b t => prod (inpK m c b t) (wK m c)) (Fin.ext e0.symm) (Fin.ext e1.symm)) (congrArg glaCol e2.symm)

/-- After the last point the second result holds the products with the second mixer's columns. -/
theorem arr6_eq : @Eq (S8x2304x2048.Idx → Elt Ideal .f32) ((dats m 0 c).arrAt 6 cfg0.N)
    (fun i => prod (inpK m c (i 0) (i 1)) (wK m c) (mlCol (i 2).val)) := by
  refine (dats m 0 c).arrAt_eq_of_covers 6 _ (by decide +kernel) fun t hf y => ?_
  blk_simp
  rw [after0_6]
  frame_out
  have y0 : (y 0).val < 1 := (y 0).isLt
  have y1 : (y 1).val < 256 := (y 1).isLt
  have y2 : (y 2).val < 2048 := (y 2).isLt
  have e0 : (((cfg0.win 6).blk t).view.emb y 0).val = t.val / 9 := by blk_simp [idx6]
  have e1 : (((cfg0.win 6).blk t).view.emb y 1).val = t.val % 9 * 256 + (y 1).val := by blk_simp [idx6]
  have e2 : win0_6.index t 2 * 2048 + (y 2).val = (y 2).val := by rw [idx6]; show 0 * 2048 + (y 2).val = (y 2).val; omega
  refine (?_ : _ = _).trans ((out6_at m c t ⟨(y 1).val, y1⟩ ⟨(y 2).val, y2⟩).trans ?_)
  · refine congrArg _ (funext fun a => Fin.ext ?_)
    match a with
    | ⟨0, _⟩ => show (y 0).val = 0; omega
    | ⟨1, _⟩ => rfl
    | ⟨2, _⟩ => rfl
  · exact congr (congrArg₂ (fun b t => prod (inpK m c b t) (wK m c)) (Fin.ext e0.symm) (Fin.ext e1.symm)) (congrArg mlCol e2.symm)

end Cert.Kernel2Ideal.Hand

end

end
-- ==== Proof.RProj.lean ====
module

public import proofs.«01_k».proof.Proof.Gen.Reference2Ideal.Read
public import proofs.«01_k».proof.Proof.Row

@[expose] public section

set_option maxRecDepth 16384

noncomputable section

/-! # The projection's reference: each entry of its two results is a normed row's product with one column -/

namespace Cert.Reference2Ideal.Hand

open Cert.Reference2Ideal Cert.Reference2Ideal.Read
open Idealize.ShloMosaic Cert.Spec

variable (x0 : S8x2048x1024.Idx → Elt Ideal .f32) (x1 : S8x256x1024.Idx → Elt Ideal .f32) (x2 : S4x16x6144.Idx → Elt Ideal .f32)
  (x3 : S4x1024.Idx → Elt Ideal .f32) (x4 : S4x1024x4672.Idx → Elt Ideal .f32)

/-- A token's row, of the reference's arguments. -/
def inpR (b : Fin 8) (t : Fin 2304) : Fin 1024 → EReal :=
  inp (fun b t d => x0 (ix3 b t d)) (fun b t d => x1 (ix3 b t d)) (fun r d => x2 (ix3 0 r d)) (fun d => x3 (ix2 0 d)) b t

/-- The projection's weights, of the reference's arguments. -/
def wR (d : Fin 1024) (n : Fin 4672) : EReal := x4 (ix3 0 d n)

/-- A latent's row. -/
theorem lat_at (b : Fin 8) (t : Fin 2048) (d : Fin 1024) :
    (val_main_v32 x0 x2 x3 (ix3 b t d) : EReal) = inpR x0 x1 x2 x3 b ⟨t.val, by omega⟩ d := by
  have h : t.val < 2048 := t.isLt
  unfold inpR inp tok modRow
  simp only [h, dite_true, if_true]
  pointwise [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_v11, val_main_v10, val_main_v6, val_main_v5, val_main_v4,
    val_main_v1, val_main_v0, val_main_cst, val_main_cst_0, val_main_cst_1, val_main_cst_2]
  rfl

/-- A context token's row. -/
theorem ctx_at (b : Fin 8) (t : Fin 256) (d : Fin 1024) :
    (val_main_v57 x1 x2 x3 (ix3 b t d) : EReal) = inpR x0 x1 x2 x3 b ⟨2048 + t.val, by omega⟩ d := by
  have h : ¬ 2048 + t.val < 2048 := by omega
  have e : 2048 + t.val - 2048 = t.val := by omega
  unfold inpR inp tok modRow
  simp only [h, dite_false, if_false, e]
  pointwise [val_main_v57, val_main_v56, val_main_v55, val_main_v54, val_main_v53, val_main_v52, val_main_v51, val_main_v50,
    val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v9,
    val_main_v8, val_main_v7, val_main_v1, val_main_v0, val_main_cst_3, val_main_cst_4, val_main_cst_5, val_main_cst_6]
  rfl

/-- A latent's products. -/
theorem latDot_at (b : Fin 8) (t : Fin 2048) (n : Fin 4672) :
    (val_main_v58 x0 x2 x3 x4 (ix3 b t n) : EReal) = prod (inpR x0 x1 x2 x3 b ⟨t.val, by omega⟩) (wR x4) n.val := by
  have e : ∀ d, (val_main_v32 x0 x2 x3 (ix3 b t d) : EReal) = inpR x0 x1 x2 x3 b ⟨t.val, by omega⟩ d := lat_at x0 x1 x2 x3 b t
  unfold val_main_v58
  rw [← prod_lt]
  simp only [← e]
  generalize val_main_v32 x0 x2 x3 = h
  pointwise [val_main_v3, val_main_v2]
  rfl

/-- A context token's products. -/
theorem ctxDot_at (b : Fin 8) (t : Fin 256) (n : Fin 4672) :
    (val_main_v59 x1 x2 x3 x4 (ix3 b t n) : EReal) = prod (inpR x0 x1 x2 x3 b ⟨2048 + t.val, by omega⟩) (wR x4) n.val := by
  have e : ∀ d, (val_main_v57 x1 x2 x3 (ix3 b t d) : EReal) = inpR x0 x1 x2 x3 b ⟨2048 + t.val, by omega⟩ d := ctx_at x0 x1 x2 x3 b t
  unfold val_main_v59
  rw [← prod_lt]
  simp only [← e]
  generalize val_main_v57 x1 x2 x3 = h
  pointwise [val_main_v3, val_main_v2]
  rfl

/-- Every token's products with all the columns. -/
theorem all_at (b : Fin 8) (t : Fin 2304) (n : Fin 4672) :
    (val_main_v60 x0 x1 x2 x3 x4 (ix3 b t n) : EReal) = prod (inpR x0 x1 x2 x3 b t) (wR x4) n.val := by
  have e : (val_main_v60 x0 x1 x2 x3 x4 (ix3 b t n) : EReal)
      = if h : t.val < 2048 then val_main_v58 x0 x2 x3 x4 (ix3 b ⟨t.val, h⟩ n)
        else val_main_v59 x1 x2 x3 x4 (ix3 b ⟨t.val - 2048, by omega⟩ n) := by
    unfold val_main_v60
    generalize val_main_v58 x0 x2 x3 x4 = p
    generalize val_main_v59 x1 x2 x3 x4 = q
    pointwise
  rw [e]
  split
  · exact latDot_at x0 x1 x2 x3 x4 b _ n
  · rename_i h
    refine (ctxDot_at x0 x1 x2 x3 x4 b _ n).trans ?_
    have e : (⟨2048 + (t.val - 2048), by omega⟩ : Fin 2304) = t := Fin.ext (by show 2048 + (t.val - 2048) = t.val; omega)
    exact congrArg (fun t => prod (inpR x0 x1 x2 x3 b t) (wR x4) n.val) e

/-- The first result: the columns per head as the first mixer takes them. -/
theorem gla_at (b : Fin 8) (t : Fin 2304) (j : Fin 1664) :
    (val_main_v74 x0 x1 x2 x3 x4 (ix3 b t j) : EReal) = prod (inpR x0 x1 x2 x3 b t) (wR x4) (glaCol j.val) := by
  have e : ∀ n, (val_main_v60 x0 x1 x2 x3 x4 (ix3 b t n) : EReal) = prod (inpR x0 x1 x2 x3 b t) (wR x4) n.val :=
    all_at x0 x1 x2 x3 x4 b t
  unfold val_main_v74 val_main_v71 val_main_v70 val_main_v69 val_main_v68 val_main_v67 val_main_v66 val_main_v65 val_main_v64
    val_main_v63 val_main_v62 val_main_v72 val_main_v73 val_main_v61 val_main_cst_7
  revert e
  generalize val_main_v60 x0 x1 x2 x3 x4 = h
  intro e
  pointwise
  simp only [e]
  unfold glaCol
  split_ifs <;> first | omega | exact (prod_zero _ _).symm | exact congrArg (prod _ _) (by omega)

/-- The second result: the columns per head as the second mixer takes them. -/
theorem ml_at (b : Fin 8) (t : Fin 2304) (j : Fin 2048) :
    (val_main_v91 x0 x1 x2 x3 x4 (ix3 b t j) : EReal) = prod (inpR x0 x1 x2 x3 b t) (wR x4) (mlCol j.val) := by
  have e : ∀ n, (val_main_v60 x0 x1 x2 x3 x4 (ix3 b t n) : EReal) = prod (inpR x0 x1 x2 x3 b t) (wR x4) n.val :=
    all_at x0 x1 x2 x3 x4 b t
  unfold val_main_v91 val_main_v90 val_main_v89 val_main_v88 val_main_v87 val_main_v86 val_main_v85 val_main_v84 val_main_v83
    val_main_v82 val_main_v81 val_main_v80 val_main_v79 val_main_v78 val_main_v77 val_main_v76 val_main_v75
  revert e
  generalize val_main_v60 x0 x1 x2 x3 x4 = h
  intro e
  pointwise
  simp only [e]
  unfold mlCol
  split_ifs <;> first | omega | exact congrArg (prod _ _) (by omega)

end Cert.Reference2Ideal.Hand

end

end
-- ==== Proof.Equal2.lean ====
module

public import proofs.«01_k».proof.Defs
public import proofs.«01_k».proof.Proof.KProj
public import proofs.«01_k».proof.Proof.RProj
public import proofs.«01_k».proof.Proof.Gen.Kernel2.Frame
public import Idealize.ShloMosaic.Lib.Quiescent

@[expose] public section

set_option maxRecDepth 16384

noncomputable section

/-! # The projection: its frames, and that the kernel and the reference end with equal results -/

namespace Cert.Proof

open Idealize.ShloMosaic Idealize.SL.Sem
open Idealize.ShloMosaic.TcCoe
open Cert.Kernel2Ideal.Hand Cert.Reference2Ideal.Hand Cert.Spec

/-- The projection's kernel, over the machine's bits, ends, leaves its five arguments as they were and every counter at zero. -/
theorem frame_kernel2 : Cert.quiescent_Kernel2 := fun m ρ _ => Cert.Kernel2.Gen.frame m ρ

/-- The same in exact arithmetic. -/
theorem frame_kernel2Ideal : Cert.quiescent_Kernel2Ideal := fun m ρ _ => Cert.Kernel2Ideal.Gen.frame m ρ

/-- The projection's reference ends, leaves its five arguments as they were and every counter at zero (it has none). -/
theorem frame_reference2Ideal : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- An index of three coordinates, taken apart. -/
theorem idx3_eq {n0 n1 n2 : ℕ} (i : (⟨3, ![n0, n1, n2]⟩ : Shape).Idx) : i = ix3 (i 0) (i 1) (i 2) := by
  funext a
  match a with
  | ⟨0, _⟩ => rfl
  | ⟨1, _⟩ => rfl
  | ⟨2, _⟩ => rfl

/-- From equal arguments, in exact arithmetic, the projection's kernel and its reference both end, their two results are
    the same arrays, and both leave their arguments as they were. -/
theorem algebraic2 : Cert.algebraic_Kernel2Ideal_Reference2Ideal := by
  intro m g m' g' _ hag
  refine ⟨fun c i => prod (inpK m c (i 0) (i 1)) (wK m c) (glaCol (i 2).val),
    fun c i => prod (inpK m c (i 0) (i 1)) (wK m c) (mlCol (i 2).val), ?_, ?_⟩
  · exact (θ_run Cert.Kernel2Ideal.defs _ _).mono
      (fun r hr c => ⟨(hr c).1.trans (arr5_eq m c), (hr c).2.1.trans (arr6_eq m c), (hr c).2.2⟩)
      (Cert.Kernel2Ideal.Value.run_blocks (F := Ideal) m g)
  · refine (θ_run Cert.Reference2Ideal.defs _ _).mono (fun r hr c => ⟨(hr c).1.trans ?_, (hr c).2.1.trans ?_, (hr c).2.2⟩)
      (Cert.Reference2Ideal.Value.run (F := Ideal) m' g')
    · obtain ⟨h0, h1, h2, h3, h4⟩ := hag c
      refine (Cert.Reference2Ideal.Read.val_main_v74_eq m' c).trans ?_
      rw [h0, h1, h2, h3, h4]
      funext i
      refine (congrArg _ (idx3_eq i)).trans ?_
      exact gla_at _ _ _ _ _ (i 0) (i 1) (i 2)
    · obtain ⟨h0, h1, h2, h3, h4⟩ := hag c
      refine (Cert.Reference2Ideal.Read.val_main_v91_eq m' c).trans ?_
      rw [h0, h1, h2, h3, h4]
      funext i
      refine (congrArg _ (idx3_eq i)).trans ?_
      exact ml_at _ _ _ _ _ (i 0) (i 1) (i 2)

end Cert.Proof

end

end
-- ==== Proof.KPack3.lean ====
module

public import proofs.«01_k».proof.Proof.Gen.Kernel3Ideal.Frame
public import proofs.«01_k».proof.Proof.Row
public import Idealize.ShloMosaic.Lib.StableHlo.ReadAt
public import Idealize.ShloMosaic.Lib.Pipeline.Value

@[expose] public section

set_option maxRecDepth 16384

noncomputable section

/-! # The projection's weights as the kernel packs them for the third mixer -/

namespace Cert.Kernel3Ideal.Hand

open Cert.Kernel3Ideal Cert.Kernel3Ideal.Gen
open Idealize.ShloMosaic Cert.Spec
open Idealize.ShloMosaic.TcCoe
open Idealize.SL Idealize.SL.Sem

variable (m : (ℓ : Loc nD τ sig) → Buf (Elt Ideal) ℓ) (c : Dev nD)

/-- The projection's weights, of the kernel's arguments on device `c`. -/
def wK (d : Fin 1024) (n : Fin 4672) : EReal := m ((c.tc : Thread nD τ).loc main_arg4) (ix3 0 d n)

/-- A column of the weights, named by its number. -/
theorem wK_at (d : Fin 1024) (k : Fin 4672) (n : ℕ) (h : k.val = n) :
    @Eq EReal (m ((c.tc : Thread nD τ).loc main_arg4) (ix3 0 d k)) (wAt (wK m c) d n) := by
  subst h
  unfold wAt wK
  rw [dif_pos k.isLt]

/-- A column of zeros, named by its number. -/
theorem zero_at (d : Fin 1024) (n : ℕ) (h : n = 4672) : @Eq EReal 0 (wAt (wK m c) d n) := by
  subst h
  rfl

/-- An entry of the packed weights lies in the piece whose columns hold it. -/
theorem cat_piece (xs : List ((s : Shape) × (s.Idx → EReal))) (h : Shape.Concatenates (xs.map (·.1)) S4x1024x1792 2) (d : Fin 1024)
    (j : Fin 1792) (k n pre : ℕ) (hk : k < xs.length) (x : (⟨3, ![4, 1024, n]⟩ : Shape).Idx → EReal) (hx : xs[k] = ⟨_, x⟩)
    (hpre : (((xs.take k).map (·.1)).map fun s => if h : s.rank = S4x1024x1792.rank then s.size ((2 : Fin S4x1024x1792.rank).cast h.symm) else 0).sum = pre)
    (hj : pre ≤ j.val) (hj' : j.val < pre + n) :
    concatenate S4x1024x1792 2 xs h (ix3 0 d j) = x (ix3 0 d ⟨j.val - pre, by omega⟩) := by
  refine concatenate_apply_piece 2 xs h _ k hk _ x hx rfl pre hpre _ (fun b hb => ?_) ?_
  · match b with
    | ⟨0, _⟩ => rfl
    | ⟨1, _⟩ => rfl
    | ⟨2, _⟩ => exact absurd rfl hb
  · show pre + (j.val - pre) = j.val
    omega

/-- The host's buffers where the packed weights are put together. -/
abbrev Vq : Valuation τ sig (Elt Ideal) := StableHlo.upto hostOps0 (fun b => m (c, b)) 29

/-- The packed weights' fourteen ranges of columns. -/
theorem pieces (j : ℕ) : (0 ≤ j ∧ j < 256) ∨ (256 ≤ j ∧ j < 512) ∨ (512 ≤ j ∧ j < 640) ∨ (640 ≤ j ∧ j < 768) ∨ (768 ≤ j ∧ j < 772) ∨ (772 ≤ j ∧ j < 776) ∨ (776 ≤ j ∧ j < 896) ∨
    (896 ≤ j ∧ j < 1152) ∨ (1152 ≤ j ∧ j < 1408) ∨ (1408 ≤ j ∧ j < 1536) ∨ (1536 ≤ j ∧ j < 1664) ∨ (1664 ≤ j ∧ j < 1668) ∨ (1668 ≤ j ∧ j < 1672) ∨ (1672 ≤ j) := by omega

set_option maxHeartbeats 4000000 in
/-- The weights, as the launch holds them. -/
theorem V_v38 (d : Fin 1024) (j : Fin 1792) : @Eq EReal (V m c main_v38 (ix2 d j)) (wAt (wK m c) d (m2Col j.val)) := by
  unfold V
  after_reads_simp
  clean_types
  generalize hC : concatenate S4x1024x1792 2 _ _ = C
  pointwise
  subst hC
  have hj : j.val < 1792 := j.isLt
  rcases pieces j.val with h | h | h | h | h | h | h | h | h | h | h | h | h | h
  · refine (cat_piece _ _ d j 0 256 0 (by show 0 < 14; omega) (Vq m c (Proc.tc.devRef main_v2)) rfl rfl (by omega) (by omega)).trans ?_
    unfold Vq
    after_reads_at
    first | refine wK_at m c d _ _ ?_ | refine zero_at m c d _ ?_
    (try dsimp only); unfold m2Col; split_ifs <;> omega
  · refine (cat_piece _ _ d j 1 256 256 (by show 1 < 14; omega) (Vq m c (Proc.tc.devRef main_v4)) rfl rfl (by omega) (by omega)).trans ?_
    unfold Vq
    after_reads_at
    first | refine wK_at m c d _ _ ?_ | refine zero_at m c d _ ?_
    (try dsimp only); unfold m2Col; split_ifs <;> omega
  · refine (cat_piece _ _ d j 2 128 512 (by show 2 < 14; omega) (Vq m c (Proc.tc.devRef main_v6)) rfl rfl (by omega) (by omega)).trans ?_
    unfold Vq
    after_reads_at
    first | refine wK_at m c d _ _ ?_ | refine zero_at m c d _ ?_
    (try dsimp only); unfold m2Col; split_ifs <;> omega
  · refine (cat_piece _ _ d j 3 128 640 (by show 3 < 14; omega) (Vq m c (Proc.tc.devRef main_v8)) rfl rfl (by omega) (by omega)).trans ?_
    unfold Vq
    after_reads_at
    first | refine wK_at m c d _ _ ?_ | refine zero_at m c d _ ?_
    (try dsimp only); unfold m2Col; split_ifs <;> omega
  · refine (cat_piece _ _ d j 4 4 768 (by show 4 < 14; omega) (Vq m c (Proc.tc.devRef main_v10)) rfl rfl (by omega) (by omega)).trans ?_
    unfold Vq
    after_reads_at
    first | refine wK_at m c d _ _ ?_ | refine zero_at m c d _ ?_
    (try dsimp only); unfold m2Col; split_ifs <;> omega
  · refine (cat_piece _ _ d j 5 4 772 (by show 5 < 14; omega) (Vq m c (Proc.tc.devRef main_v12)) rfl rfl (by omega) (by omega)).trans ?_
    unfold Vq
    after_reads_at
    first | refine wK_at m c d _ _ ?_ | refine zero_at m c d _ ?_
    (try dsimp only); unfold m2Col; split_ifs <;> omega
  · refine (cat_piece _ _ d j 6 120 776 (by show 6 < 14; omega) (Vq m c (Proc.tc.devRef main_v13)) rfl rfl (by omega) (by omega)).trans ?_
    unfold Vq
    after_reads_at
    first | refine wK_at m c d _ _ ?_ | refine zero_at m c d _ ?_
    (try dsimp only); unfold m2Col; split_ifs <;> omega
  · refine (cat_piece _ _ d j 7 256 896 (by show 7 < 14; omega) (Vq m c (Proc.tc.devRef main_v15)) rfl rfl (by omega) (by omega)).trans ?_
    unfold Vq
    after_reads_at
    first | refine wK_at m c d _ _ ?_ | refine zero_at m c d _ ?_
    (try dsimp only); unfold m2Col; split_ifs <;> omega
  · refine (cat_piece _ _ d j 8 256 1152 (by show 8 < 14; omega) (Vq m c (Proc.tc.devRef main_v17)) rfl rfl (by omega) (by omega)).trans ?_
    unfold Vq
    after_reads_at
    first | refine wK_at m c d _ _ ?_ | refine zero_at m c d _ ?_
    (try dsimp only); unfold m2Col; split_ifs <;> omega
  · refine (cat_piece _ _ d j 9 128 1408 (by show 9 < 14; omega) (Vq m c (Proc.tc.devRef main_v19)) rfl rfl (by omega) (by omega)).trans ?_
    unfold Vq
    after_reads_at
    first | refine wK_at m c d _ _ ?_ | refine zero_at m c d _ ?_
    (try dsimp only); unfold m2Col; split_ifs <;> omega
  · refine (cat_piece _ _ d j 10 128 1536 (by show 10 < 14; omega) (Vq m c (Proc.tc.devRef main_v21)) rfl rfl (by omega) (by omega)).trans ?_
    unfold Vq
    after_reads_at
    first | refine wK_at m c d _ _ ?_ | refine zero_at m c d _ ?_
    (try dsimp only); unfold m2Col; split_ifs <;> omega
  · refine (cat_piece _ _ d j 11 4 1664 (by show 11 < 14; omega) (Vq m c (Proc.tc.devRef main_v23)) rfl rfl (by omega) (by omega)).trans ?_
    unfold Vq
    after_reads_at
    first | refine wK_at m c d _ _ ?_ | refine zero_at m c d _ ?_
    (try dsimp only); unfold m2Col; split_ifs <;> omega
  · refine (cat_piece _ _ d j 12 4 1668 (by show 12 < 14; omega) (Vq m c (Proc.tc.devRef main_v25)) rfl rfl (by omega) (by omega)).trans ?_
    unfold Vq
    after_reads_at
    first | refine wK_at m c d _ _ ?_ | refine zero_at m c d _ ?_
    (try dsimp only); unfold m2Col; split_ifs <;> omega
  · refine (cat_piece _ _ d j 13 120 1672 (by show 13 < 14; omega) (Vq m c (Proc.tc.devRef main_v26)) rfl rfl (by omega) (by omega)).trans ?_
    unfold Vq
    after_reads_at
    first | refine wK_at m c d _ _ ?_ | refine zero_at m c d _ ?_
    (try dsimp only); unfold m2Col; split_ifs <;> omega

end Cert.Kernel3Ideal.Hand

end

end
-- ==== Proof.KProj3.lean ====
module

public import proofs.«01_k».proof.Proof.Gen.Kernel3Ideal.Value
public import proofs.«01_k».proof.Proof.KPack3
public import proofs.«01_k».proof.Proof.Blocks
public import Idealize.ShloMosaic.Lib.StableHlo.ReadAt
public import Idealize.ShloMosaic.Lib.Pipeline.ValueKit
public import Idealize.ShloMosaic.Lib.Pipeline.Covers

@[expose] public section

set_option maxRecDepth 16384

noncomputable section

/-! # The third mixer's projection, the kernel: each entry of its result is a normed row's product with one column -/

namespace Cert.Kernel3Ideal.Hand

open Cert.Kernel3Ideal Cert.Kernel3Ideal.Gen
open Idealize.ShloMosaic Cert.Spec
open Idealize.ShloMosaic.TcCoe
open Idealize.SL Idealize.SL.Sem

/-- The test that chooses between a block of latents and the context's block. -/
theorem sel_at : ∀ n : Fin 9, Scalar.cmpi .slt (BitVec.ofNat 32 n.val) 8#32 = if n.val < 8 then 1#1 else 0#1 := by decide

/-- A block's products: the block's rows are those of `v1` if the second grid coordinate is below 8, else those of `v3`. -/
theorem pay2_at (i : grid0.Coords) (v1 v3 : Vec Ideal S1x256x1024 .f32) (g : Vec Ideal S1x1024 .f32) (sc sh : Vec Ideal S1x1x1024 .f32)
    (w : Vec Ideal S1024x1792 .bf16) (p : Fin 256) (j : Fin 1792) :
    (k0_pay2 i v1 v3 g sc sh w (ix2 p j) : EReal)
      = ∑ d, row (fun d => if (i 1).val < 8 then v1 (ix3 0 p d) else v3 (ix3 0 p d)) (fun d => g (ix2 0 d)) (fun d => sc (ix3 0 0 d))
          (fun d => sh (ix3 0 0 d)) d * w (ix2 d j) := by
  have h := sel_at (i 1)
  unfold row
  by_cases hi : (i 1).val < 8
  · rw [if_pos hi] at h
    simp only [if_pos hi]
    simp only [k0_pay2, h]
    pointwise
  · rw [if_neg hi] at h
    simp only [if_neg hi]
    simp only [k0_pay2, h]
    pointwise

/-- The result's block holds the products. -/
theorem pay1_at (h : FVec Ideal S256x1792 .f32) (p : Fin 256) (j : Fin 1792) : (k0_pay1 h (ix3 0 p j) : EReal) = h (ix2 p j) := by
  pointwise [k0_pay1]

variable (m : (ℓ : Loc nD τ sig) → Buf (Elt Ideal) ℓ) (c : Dev nD)

/-- A token's row, of the kernel's arguments on device `c`; the latents are taken column by column. -/
def inpK (b : Fin 8) (t : Fin 2304) : Fin 1024 → EReal :=
  inp (fun b t d => m ((c.tc : Thread nD τ).loc main_arg0) (ix3 b (colM t) d)) (fun b t d => m ((c.tc : Thread nD τ).loc main_arg1) (ix3 b t d))
    (fun r d => m ((c.tc : Thread nD τ).loc main_arg2) (ix3 0 r d)) (fun d => m ((c.tc : Thread nD τ).loc main_arg3) (ix2 0 d)) b t

/-- The latents column by column, as the launch holds them. -/
theorem V_v32 (b : Fin 8) (t : Fin 2048) (d : Fin 1024) :
    @Eq EReal (V m c main_v32 (ix3 b t d)) (m ((c.tc : Thread nD τ).loc main_arg0) (ix3 b (colM t) d)) := by
  unfold V colM
  after_reads_at
  after_reads_at
  exact dif_pos (by omega)

/-- The context's tokens, as the launch holds them after the latents. -/
theorem V_v28 (b : Fin 8) (p : Fin 256) (d : Fin 1024) :
    @Eq EReal (V m c main_v28 (ix3 b ⟨2048 + p.val, by omega⟩ d)) (m ((c.tc : Thread nD τ).loc main_arg1) (ix3 b p d)) := by
  unfold V
  after_reads_at

/-- The modulation table, as the launch holds it: six rows for each of the sixteen. -/
theorem V_v34 (r : Fin 96) (d : Fin 1024) :
    @Eq EReal (V m c main_v34 (ix3 r 0 d)) (m ((c.tc : Thread nD τ).loc main_arg2) (ix3 0 ⟨r.val / 6, by omega⟩ ⟨r.val % 6 * 1024 + d.val, by omega⟩)) := by
  unfold V
  after_reads_at

/-- The norm's scale, as the launch holds it. -/
theorem V_v39 (d : Fin 1024) : @Eq EReal (V m c main_v39 (ix2 0 d)) (m ((c.tc : Thread nD τ).loc main_arg3) (ix2 0 d)) := by
  unfold V
  after_reads_at

/-! The blocks' places. -/

theorem co1 : ∀ t : Fin cfg0.N, (grid0.coords t 1).val = t.val % 9 := by decide +kernel
theorem idx0 : ∀ t : Fin cfg0.N, win0_0.index t = ![t.val / 9, min (t.val % 9) 7, 0] := by decide +kernel
theorem idx1 : ∀ t : Fin cfg0.N, win0_1.index t = ![t.val / 9, max (t.val % 9) 8, 0] := by decide +kernel
theorem idx2 : ∀ t : Fin cfg0.N, win0_2.index t = ![(if t.val % 9 < 8 then t.val / 9 else 8) * 6, 0, 0] := by decide +kernel
theorem idx3 : ∀ t : Fin cfg0.N, win0_3.index t = ![(if t.val % 9 < 8 then t.val / 9 else 8) * 6 + 1, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val / 9, t.val % 9, 0] := by decide +kernel

/-- Token `p` of block `t` among the latents. -/
def lOf (t : Fin 72) (h : t.val % 9 < 8) (p : Fin 256) : Fin 2048 := ⟨t.val % 9 * 256 + p.val, by omega⟩

/-- Token `p` of the context, after the latents. -/
def cOf (p : Fin 256) : Fin 2304 := ⟨2048 + p.val, by omega⟩

theorem iblk0_at (t : Fin cfg0.N) (h : t.val % 9 < 8) (p : Fin 256) (d : Fin 1024) :
    iblk m c 0 t (ix3 0 p d) = V m c main_v32 (ix3 (bOf t) (lOf t h p) d) := by
  have e : ((cfg0.win 0).blk t).view.emb (ix3 0 p d) = (ix3 (bOf t) (lOf t h p) d : S8x2048x1024.Idx) := by
    funext a
    refine Fin.ext ?_
    match a with
    | ⟨0, _⟩ => blk_simp [idx0]; simp [bOf]
    | ⟨1, _⟩ => blk_simp [idx0]; show min (t.val % 9) 7 * 256 + p.val = t.val % 9 * 256 + p.val; rw [Nat.min_eq_left (Nat.le_of_lt_succ h)]
    | ⟨2, _⟩ => blk_simp [idx0]
  unfold iblk
  generalize V m c = W
  unfold View.read
  rw [cast_eq]
  exact congrArg (W main_v32) e

theorem iblk1_at (t : Fin cfg0.N) (h : ¬ t.val % 9 < 8) (p : Fin 256) (d : Fin 1024) :
    iblk m c 1 t (ix3 0 p d) = V m c main_v28 (ix3 (bOf t) (cOf p) d) := by
  have e : ((cfg0.win 1).blk t).view.emb (ix3 0 p d) = (ix3 (bOf t) (cOf p) d : S8x2304x1024.Idx) := by
    funext a
    refine Fin.ext ?_
    match a with
    | ⟨0, _⟩ => blk_simp [idx1]; simp [bOf]
    | ⟨1, _⟩ => blk_simp [idx1]; show max (t.val % 9) 8 * 256 + p.val = 2048 + p.val; rw [Nat.max_eq_right (Nat.le_of_lt_succ (Nat.mod_lt _ (by decide)))]
    | ⟨2, _⟩ => blk_simp [idx1]
  unfold iblk
  generalize V m c = W
  unfold View.read
  rw [cast_eq]
  exact congrArg (W main_v28) e

theorem iblk2_at (t : Fin cfg0.N) (d : Fin 1024) :
    iblk m c 2 t (ix3 0 0 d) = V m c main_v34 (ix3 ⟨(rOf t).val * 6, by omega⟩ 0 d) := by
  show V m c main_v34 (((cfg0.win 2).blk t).view.emb (ix3 0 0 d)) = _
  refine congrArg _ (funext fun a => Fin.ext ?_)
  match a with
  | ⟨0, _⟩ => blk_simp [idx2]; simp [rOf]
  | ⟨1, _⟩ => blk_simp [idx2]
  | ⟨2, _⟩ => blk_simp [idx2]

theorem iblk3_at (t : Fin cfg0.N) (d : Fin 1024) :
    iblk m c 3 t (ix3 0 0 d) = V m c main_v34 (ix3 ⟨(rOf t).val * 6 + 1, by omega⟩ 0 d) := by
  show V m c main_v34 (((cfg0.win 3).blk t).view.emb (ix3 0 0 d)) = _
  refine congrArg _ (funext fun a => Fin.ext ?_)
  match a with
  | ⟨0, _⟩ => blk_simp [idx3]; simp [rOf]
  | ⟨1, _⟩ => blk_simp [idx3]
  | ⟨2, _⟩ => blk_simp [idx3]

theorem iblk4_at (t : Fin cfg0.N) (d : Fin 1024) : iblk m c 4 t (ix2 0 d) = V m c main_v39 (ix2 0 d) := by
  show V m c main_v39 (((cfg0.win 4).blk t).view.emb (ix2 0 d)) = _
  refine congrArg _ (funext fun a => Fin.ext ?_)
  match a with
  | ⟨0, _⟩ => blk_simp [idx4]
  | ⟨1, _⟩ => blk_simp [idx4]

theorem iblk5_at (t : Fin cfg0.N) (d : Fin 1024) (j : Fin 1792) : iblk m c 5 t (ix2 d j) = V m c main_v38 (ix2 d j) := by
  show V m c main_v38 (((cfg0.win 5).blk t).view.emb (ix2 d j)) = _
  refine congrArg _ (funext fun a => Fin.ext ?_)
  match a with
  | ⟨0, _⟩ => blk_simp [idx5]
  | ⟨1, _⟩ => blk_simp [idx5]

/-- The tokens of the block of point `t`. -/
theorem toks_at (t : Fin cfg0.N) (p : Fin 256) (d : Fin 1024) :
    @Eq EReal (if (grid0.coords t 1).val < 8 then iblk m c 0 t (ix3 0 p d) else iblk m c 1 t (ix3 0 p d))
      (tok (fun b t d => m ((c.tc : Thread nD τ).loc main_arg0) (ix3 b (colM t) d))
        (fun b t d => m ((c.tc : Thread nD τ).loc main_arg1) (ix3 b t d)) (bOf t) (tOf t p) d) := by
  rw [co1]
  unfold tok
  by_cases h : t.val % 9 < 8
  · rw [if_pos h, dif_pos (show (tOf t p).val < 2048 by show t.val % 9 * 256 + p.val < 2048; omega)]
    exact (iblk0_at m c t h p d).trans (V_v32 m c _ _ _)
  · rw [if_neg h, dif_neg (show ¬ (tOf t p).val < 2048 by show ¬ (t.val % 9 * 256 + p.val < 2048); omega)]
    refine (iblk1_at m c t h p d).trans ((V_v28 m c _ _ _).trans (congrArg (fun q => m ((c.tc : Thread nD τ).loc main_arg1) (ix3 (bOf t) q d)) (Fin.ext ?_)))
    show p.val = t.val % 9 * 256 + p.val - 2048
    omega

/-- Entry `(p, j)` of what point `t` leaves in the result. -/
theorem out6_at (t : Fin cfg0.N) (p : Fin 256) (j : Fin 1792) :
    (k0_pay2 (grid0.coords t) (iblk m c 0 t) (iblk m c 1 t) (iblk m c 4 t) (iblk m c 3 t) (iblk m c 2 t) (iblk m c 5 t) (ix2 p j) : EReal)
      = prod (inpK m c (bOf t) (tOf t p)) (wK m c) (m2Col j.val) := by
  rw [pay2_at]
  unfold prod
  refine Finset.sum_congr rfl fun d _ => congrArg₂ _ ?_ ((iblk5_at m c t d j).trans (V_v38 m c d j))
  unfold inpK inp
  rw [show modRow (bOf t) (tOf t p) = rOf t from modRow_eq t p]
  refine congrFun (congr (congr (congr (congrArg row ?_) ?_) ?_) ?_) d <;> funext e
  · exact toks_at m c t p e
  · exact (iblk4_at m c t e).trans (V_v39 m c _)
  · refine (iblk3_at m c t e).trans ((V_v34 m c _ _).trans (congrArg _ (congrArg₂ (ix3 0) (Fin.ext ?_) (Fin.ext ?_))))
    · show ((rOf t).val * 6 + 1) / 6 = _; omega
    · show ((rOf t).val * 6 + 1) % 6 * 1024 + e.val = 1024 + e.val; omega
  · refine (iblk2_at m c t e).trans ((V_v34 m c _ _).trans (congrArg _ (congrArg₂ (ix3 0) (Fin.ext ?_) (Fin.ext ?_))))
    · show ((rOf t).val * 6) / 6 = _; omega
    · show ((rOf t).val * 6) % 6 * 1024 + e.val = e.val; omega

/-- After the last point the result holds the products with the third mixer's columns. -/
theorem arr6_eq : @Eq (S8x2304x1792.Idx → Elt Ideal .f32) ((dats m 0 c).arrAt 6 cfg0.N)
    (fun i => prod (inpK m c (i 0) (i 1)) (wK m c) (m2Col (i 2).val)) := by
  refine (dats m 0 c).arrAt_eq_of_covers 6 _ (by decide +kernel) fun t hf y => ?_
  blk_simp
  rw [after0_6]
  frame_out
  have y0 : (y 0).val < 1 := (y 0).isLt
  have y1 : (y 1).val < 256 := (y 1).isLt
  have y2 : (y 2).val < 1792 := (y 2).isLt
  have e0 : (((cfg0.win 6).blk t).view.emb y 0).val = t.val / 9 := by blk_simp [idx6]
  have e1 : (((cfg0.win 6).blk t).view.emb y 1).val = t.val % 9 * 256 + (y 1).val := by blk_simp [idx6]
  have e2 : win0_6.index t 2 * 1792 + (y 2).val = (y 2).val := by rw [idx6]; show 0 * 1792 + (y 2).val = (y 2).val; omega
  refine (?_ : _ = _).trans (((pay1_at _ ⟨(y 1).val, y1⟩ ⟨(y 2).val, y2⟩).trans (out6_at m c t ⟨(y 1).val, y1⟩ ⟨(y 2).val, y2⟩)).trans ?_)
  · refine congrArg _ (funext fun a => Fin.ext ?_)
    match a with
    | ⟨0, _⟩ => show (y 0).val = 0; omega
    | ⟨1, _⟩ => rfl
    | ⟨2, _⟩ => rfl
  · exact congr (congrArg₂ (fun b t => prod (inpK m c b t) (wK m c)) (Fin.ext e0.symm) (Fin.ext e1.symm)) (congrArg m2Col e2.symm)

end Cert.Kernel3Ideal.Hand

end

end
-- ==== Proof.RProj3.lean ====
module

public import proofs.«01_k».proof.Proof.Gen.Reference3Ideal.Read
public import proofs.«01_k».proof.Proof.Row

@[expose] public section

set_option maxRecDepth 16384

noncomputable section

/-! # The second projection's reference: each entry of its result is a normed row's product with one column, the latents column by column -/

namespace Cert.Reference3Ideal.Hand

open Cert.Reference3Ideal Cert.Reference3Ideal.Read
open Idealize.ShloMosaic Cert.Spec

variable (x0 : S8x2048x1024.Idx → Elt Ideal .f32) (x1 : S8x256x1024.Idx → Elt Ideal .f32) (x2 : S4x16x6144.Idx → Elt Ideal .f32)
  (x3 : S4x1024.Idx → Elt Ideal .f32) (x4 : S4x1024x4672.Idx → Elt Ideal .f32)

/-- A token's row, of the reference's arguments. -/
def inpR (b : Fin 8) (t : Fin 2304) : Fin 1024 → EReal :=
  inp (fun b t d => x0 (ix3 b (colM t) d)) (fun b t d => x1 (ix3 b t d)) (fun r d => x2 (ix3 0 r d)) (fun d => x3 (ix2 0 d)) b t

/-- The projection's weights, of the reference's arguments. -/
def wR (d : Fin 1024) (n : Fin 4672) : EReal := x4 (ix3 0 d n)

/-- The row of the latent at place `t` of the column-by-column order. -/
theorem lat_at (b : Fin 8) (t : Fin 2048) (d : Fin 1024) :
    (val_main_v32 x0 x2 x3 (ix3 b (colM t) d) : EReal) = inpR x0 x1 x2 x3 b ⟨t.val, by omega⟩ d := by
  have h : t.val < 2048 := t.isLt
  unfold inpR inp tok modRow
  simp only [h, dite_true, if_true]
  pointwise [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_v11, val_main_v10, val_main_v6, val_main_v5, val_main_v4,
    val_main_v1, val_main_v0, val_main_cst, val_main_cst_0, val_main_cst_1, val_main_cst_2]
  rfl

/-- A context token's row. -/
theorem ctx_at (b : Fin 8) (t : Fin 256) (d : Fin 1024) :
    (val_main_v57 x1 x2 x3 (ix3 b t d) : EReal) = inpR x0 x1 x2 x3 b ⟨2048 + t.val, by omega⟩ d := by
  have h : ¬ 2048 + t.val < 2048 := by omega
  have e : 2048 + t.val - 2048 = t.val := by omega
  unfold inpR inp tok modRow
  simp only [h, dite_false, if_false, e]
  pointwise [val_main_v57, val_main_v56, val_main_v55, val_main_v54, val_main_v53, val_main_v52, val_main_v51, val_main_v50,
    val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v9,
    val_main_v8, val_main_v7, val_main_v1, val_main_v0, val_main_cst_3, val_main_cst_4, val_main_cst_5, val_main_cst_6]
  rfl

/-- A latent's products. -/
theorem latDot_at (b : Fin 8) (t : Fin 2048) (n : Fin 4672) :
    (val_main_v58 x0 x2 x3 x4 (ix3 b (colM t) n) : EReal) = prod (inpR x0 x1 x2 x3 b ⟨t.val, by omega⟩) (wR x4) n.val := by
  have e : ∀ d, (val_main_v32 x0 x2 x3 (ix3 b (colM t) d) : EReal) = inpR x0 x1 x2 x3 b ⟨t.val, by omega⟩ d := lat_at x0 x1 x2 x3 b t
  unfold val_main_v58
  rw [← prod_lt]
  simp only [← e]
  generalize val_main_v32 x0 x2 x3 = h
  pointwise [val_main_v3, val_main_v2]
  rfl

/-- A context token's products. -/
theorem ctxDot_at (b : Fin 8) (t : Fin 256) (n : Fin 4672) :
    (val_main_v63 x1 x2 x3 x4 (ix3 b t n) : EReal) = prod (inpR x0 x1 x2 x3 b ⟨2048 + t.val, by omega⟩) (wR x4) n.val := by
  have e : ∀ d, (val_main_v57 x1 x2 x3 (ix3 b t d) : EReal) = inpR x0 x1 x2 x3 b ⟨2048 + t.val, by omega⟩ d := ctx_at x0 x1 x2 x3 b t
  unfold val_main_v63
  rw [← prod_lt]
  simp only [← e]
  generalize val_main_v57 x1 x2 x3 = h
  pointwise [val_main_v3, val_main_v2]
  rfl

/-- Every token's products with the third mixer's columns. -/
theorem all_at (b : Fin 8) (t : Fin 2304) (n : Fin 1552) :
    (val_main_v65 x0 x1 x2 x3 x4 (ix3 b t n) : EReal) = prod (inpR x0 x1 x2 x3 b t) (wR x4) (3120 + n.val) := by
  have e : (val_main_v65 x0 x1 x2 x3 x4 (ix3 b t n) : EReal)
      = if h : t.val < 2048 then val_main_v58 x0 x2 x3 x4 (ix3 b (colM ⟨t.val, h⟩) ⟨3120 + n.val, by omega⟩)
        else val_main_v63 x1 x2 x3 x4 (ix3 b ⟨t.val - 2048, by omega⟩ ⟨3120 + n.val, by omega⟩) := by
    unfold val_main_v65 val_main_v64 val_main_v62 val_main_v61 val_main_v60 val_main_v59 colM
    generalize val_main_v58 x0 x2 x3 x4 = p
    generalize val_main_v63 x1 x2 x3 x4 = q
    pointwise
  rw [e]
  split
  · exact latDot_at x0 x1 x2 x3 x4 b _ _
  · rename_i h
    refine (ctxDot_at x0 x1 x2 x3 x4 b _ _).trans ?_
    have e : (⟨2048 + (t.val - 2048), by omega⟩ : Fin 2304) = t := Fin.ext (by show 2048 + (t.val - 2048) = t.val; omega)
    exact congrArg (fun t => prod (inpR x0 x1 x2 x3 b t) (wR x4) (3120 + n.val)) e

/-- The result: the columns per group of heads as the third mixer takes them. -/
theorem m2_at (b : Fin 8) (t : Fin 2304) (j : Fin 1792) :
    (val_main_v81 x0 x1 x2 x3 x4 (ix3 b t j) : EReal) = prod (inpR x0 x1 x2 x3 b t) (wR x4) (m2Col j.val) := by
  have e : ∀ n, (val_main_v65 x0 x1 x2 x3 x4 (ix3 b t n) : EReal) = prod (inpR x0 x1 x2 x3 b t) (wR x4) (3120 + n.val) :=
    all_at x0 x1 x2 x3 x4 b t
  unfold val_main_v81 val_main_v80 val_main_v79 val_main_v78 val_main_v77 val_main_v76 val_main_v75 val_main_v74 val_main_v73
    val_main_v72 val_main_v71 val_main_v70 val_main_v69 val_main_v68 val_main_v67 val_main_v66 val_main_cst_7
  revert e
  generalize val_main_v65 x0 x1 x2 x3 x4 = h
  intro e
  pointwise
  simp only [e]
  unfold m2Col
  split_ifs <;> first | omega | exact (prod_zero _ _).symm | exact congrArg (prod _ _) (by omega)

end Cert.Reference3Ideal.Hand

end

end
-- ==== Proof.Equal3.lean ====
module

public import proofs.«01_k».proof.Defs
public import proofs.«01_k».proof.Proof.KProj3
public import proofs.«01_k».proof.Proof.RProj3
public import proofs.«01_k».proof.Proof.Equal2
public import proofs.«01_k».proof.Proof.Gen.Kernel3.Frame
public import Idealize.ShloMosaic.Lib.Quiescent

@[expose] public section

set_option maxRecDepth 16384

noncomputable section

/-! # The third mixer's projection: its frames, and that the kernel and the reference end with equal results -/

namespace Cert.Proof

open Idealize.ShloMosaic Idealize.SL.Sem
open Idealize.ShloMosaic.TcCoe
open Cert.Spec

/-- The third mixer's projection, over the machine's bits, ends, leaves its five arguments as they were and every counter at zero. -/
theorem frame_kernel3 : Cert.quiescent_Kernel3 := fun m ρ _ => Cert.Kernel3.Gen.frame m ρ

/-- The same in exact arithmetic. -/
theorem frame_kernel3Ideal : Cert.quiescent_Kernel3Ideal := fun m ρ _ => Cert.Kernel3Ideal.Gen.frame m ρ

/-- Its reference ends, leaves its five arguments as they were and every counter at zero (it has none). -/
theorem frame_reference3Ideal : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- From equal arguments, in exact arithmetic, the third mixer's projection and its reference both end, their results are
    the same array, and both leave their arguments as they were. -/
theorem algebraic3 : Cert.algebraic_Kernel3Ideal_Reference3Ideal := by
  intro m g m' g' _ hag
  refine ⟨fun c i => prod (Cert.Kernel3Ideal.Hand.inpK m c (i 0) (i 1)) (Cert.Kernel3Ideal.Hand.wK m c) (m2Col (i 2).val), ?_, ?_⟩
  · exact (θ_run Cert.Kernel3Ideal.defs _ _).mono
      (fun r hr c => ⟨(hr c).1.trans (Cert.Kernel3Ideal.Hand.arr6_eq m c), (hr c).2⟩)
      (Cert.Kernel3Ideal.Value.run_blocks (F := Ideal) m g)
  · refine (θ_run Cert.Reference3Ideal.defs _ _).mono (fun r hr c => ⟨(hr c).1.trans ?_, (hr c).2⟩)
      (Cert.Reference3Ideal.Value.run (F := Ideal) m' g')
    obtain ⟨h0, h1, h2, h3, h4⟩ := hag c
    refine (Cert.Reference3Ideal.Read.val_main_v81_eq m' c).trans ?_
    rw [h0, h1, h2, h3, h4]
    funext i
    refine (congrArg _ (idx3_eq i)).trans ?_
    exact Cert.Reference3Ideal.Hand.m2_at _ _ _ _ _ (i 0) (i 1) (i 2)

end Cert.Proof

end

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Pre_some_rows
public import proofs.«01_k».proof.Proof.Frames
public import proofs.«01_k».proof.Proof.RefFrame
public import proofs.«01_k».proof.Proof.Equal
public import proofs.«01_k».proof.Proof.Equal2
public import proofs.«01_k».proof.Proof.Equal3

@[expose] public section

noncomputable section

namespace Cert.Proof

open Idealize.ShloMosaic Idealize.SL.Sem Cert.Kernel

/-- Everything claimed: of each call three frames, the idealization, and the equality of the results. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts,
  Cert.Kernel3Ideal.Gen.facts, Cert.Reference3Ideal.Gen.facts, Cert.Pre_some_rows.Gen.facts,
  frame_kernel, frame_kernelIdeal, frame_referenceIdeal, frame_kernel2, frame_kernel2Ideal, frame_reference2Ideal,
  frame_kernel3, frame_kernel3Ideal, frame_reference3Ideal, trivial, algebraic, trivial, algebraic2, trivial, algebraic3⟩

end Cert.Proof

end
